-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x256 : Shape := ⟨3, ![4, 4096, 256]⟩
abbrev S8x256 : Shape := ⟨2, ![8, 256]⟩
abbrev S4x256 : Shape := ⟨2, ![4, 256]⟩
abbrev S16384x256 : Shape := ⟨2, ![16384, 256]⟩
abbrev S128x256 : Shape := ⟨2, ![128, 256]⟩
abbrev S_ : Shape := ⟨0, ![]⟩
abbrev S1x16 : Shape := ⟨2, ![1, 16]⟩
abbrev S16 : Shape := ⟨1, ![16]⟩

abbrev nBuf : Table → Nat
  | .hbm => 5
  | .local .scVector .vmem => 3
  | _ => 0

abbrev bufTy : (tb : Table) → Fin (nBuf tb) → BufTy
  | .hbm, ⟨0, _⟩ => ⟨S4x4096x256, .f32⟩
  | .hbm, ⟨1, _⟩ => ⟨S8x256, .f32⟩
  | .hbm, ⟨2, _⟩ => ⟨S4x256, .f32⟩
  | .hbm, ⟨3, _⟩ => ⟨S16384x256, .f32⟩
  | .hbm, ⟨4, _⟩ => ⟨S4x4096x256, .f32⟩
  | .local .scVector .vmem, ⟨0, _⟩ => ⟨S8x256, .f32⟩
  | .local .scVector .vmem, ⟨1, _⟩ => ⟨S4x256, .f32⟩
  | .local .scVector .vmem, ⟨2, _⟩ => ⟨S128x256, .f32⟩
  | _, _ => ⟨S4x4096x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_4465 : BitVec 32) : Fin 2 → Nat :=
  let arg1 : BitVec 32 := BitVec.ofNat 32 (i 1).val
  let c2_i32_4464 : BitVec 32 := 2#32
  let v9088 : BitVec 32 := Scalar.muli arg1 c2_i32_4464
  let arg0 : BitVec 32 := BitVec.ofNat 32 (i 0).val
  let v9089 : BitVec 32 := Scalar.addi v9088 arg0
  let c512_i32 : BitVec 32 := 512#32
  let v9090 : BitVec 32 := Scalar.muli v9089 c512_i32
  let v9091 : BitVec 32 := Scalar.addi v9090 c0_i32_4465
  let c0_i32_4466 : BitVec 32 := 0#32
  ![v9091.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x256 : Shape := ⟨3, ![4, 4096, 256]⟩
abbrev S8x256 : Shape := ⟨2, ![8, 256]⟩
abbrev S4x256 : Shape := ⟨2, ![4, 256]⟩
abbrev S8 : Shape := ⟨1, ![8]⟩
abbrev S1x8 : Shape := ⟨2, ![1, 8]⟩
abbrev S512x8 : Shape := ⟨2, ![512, 8]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x256 : Shape := ⟨2, ![4096, 256]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S8x256, .f32⟩
  | .hbm, ⟨2, _⟩ => ⟨S4x256, .f32⟩
  | .hbm, ⟨3, _⟩ => ⟨S8, .i32⟩
  | .hbm, ⟨4, _⟩ => ⟨S8, .i32⟩
  | .hbm, ⟨5, _⟩ => ⟨S1x8, .i32⟩
  | .hbm, ⟨6, _⟩ => ⟨S512x8, .i32⟩
  | .hbm, ⟨7, _⟩ => ⟨S4096, .i32⟩
  | .hbm, ⟨8, _⟩ => ⟨S1x8, .i32⟩
  | .hbm, ⟨9, _⟩ => ⟨S512x8, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S1, .i32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S1x1, .i32⟩
  | .hbm, ⟨24, _⟩ => ⟨S4096x1, .i32⟩
  | .hbm, ⟨25, _⟩ => ⟨S4096x1, .i1⟩
  | .hbm, ⟨26, _⟩ => ⟨S4096x1, .i1⟩
  | .hbm, ⟨27, _⟩ => ⟨S_, .i1⟩
  | .hbm, ⟨28, _⟩ => ⟨S4096, .i1⟩
  | .hbm, ⟨29, _⟩ => ⟨S4096x256, .f32⟩
  | .hbm, ⟨30, _⟩ => ⟨S4096x256, .i1⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S4x4096x256, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S1, .i32⟩
  | .hbm, ⟨44, _⟩ => ⟨S_, .i32⟩
  | .hbm, ⟨45, _⟩ => ⟨S4096x1, .i32⟩
  | .hbm, ⟨46, _⟩ => ⟨S4096x1, .i1⟩
  | .hbm, ⟨47, _⟩ => ⟨S1x1, .i32⟩
  | .hbm, ⟨48, _⟩ => ⟨S4096x1, .i32⟩
  | .hbm, ⟨49, _⟩ => ⟨S4096x1, .i1⟩
  | .hbm, ⟨50, _⟩ => ⟨S4096x1, .i1⟩
  | .hbm, ⟨51, _⟩ => ⟨S_, .i1⟩
  | .hbm, ⟨52, _⟩ => ⟨S4096, .i1⟩
  | .hbm, ⟨53, _⟩ => ⟨S4096x256, .f32⟩
  | .hbm, ⟨54, _⟩ => ⟨S4096x256, .i1⟩
  | .hbm, ⟨55, _⟩ => ⟨S_, .f32⟩
  | .hbm, ⟨56, _⟩ => ⟨S4096x256, .f32⟩
  | .hbm, ⟨57, _⟩ => ⟨S4096x256, .f32⟩
  | .hbm, ⟨58, _⟩ => ⟨S4x4096x256, .f32⟩
  | .hbm, ⟨59, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v7 : Ref sig .tc := ⟨.hbm, 33, rfl⟩
abbrev main_v8 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩

abbrev nD : Nat := 1
abbrev τ : Topo := Topo.v7x

variable {F : FTy → Type} [FloatOps F]
-- ==== Proof.Kernel.Body.lean ====
/-
  The printed body of the task is the short program of Rows.lean: two fetches, sixteen column chunks, four copies out.
-/
module

public import proofs.«01_k».proof.Proof.Kernel.Rows

@[expose] public section

noncomputable section

namespace Cert.Kernel.Tile

open Cert.Kernel Idealize.ShloMosaic Idealize.SL.Sem

variable {F : FTy → Type} [FloatOps F] [Facts]

set_option maxRecDepth 1000000 in
set_option maxHeartbeats 4000000 in
/-- The printed body fetches the two tables, fills the buffer in sixteen column chunks and sends it to the tile's four
    blocks. -/
theorem body_eq (i : grid0.Coords) (arg2 : Memref sig .scVector .hbm S8x256 .f32) (harg2 : arg2.IsWhole)
    (arg3 : Memref sig .scVector .hbm S4x256 .f32) (harg3 : arg3.IsWhole) (arg4 : Memref sig .scVector .hbm S16384x256 .f32) (harg4 : arg4.IsWhole)
    (arg5 : Memref sig .scVector .vmem S8x256 .f32) (harg5 : arg5.IsWhole) (arg6 : Memref sig .scVector .vmem S4x256 .f32) (harg6 : arg6.IsWhole)
    (arg7 : Memref sig .scVector .vmem S128x256 .f32) (harg7 : arg7.IsWhole) (arg8 r0 r1 : DmaSems sig S_) :
    cc0_sc_kernel (F := F) i arg2 harg2 arg3 harg3 arg4 harg4 arg5 harg5 arg6 harg6 arg7 harg7 arg8 r0 r1
      = (fetch arg2 harg2 arg5 harg5 r0 <| fetch arg3 harg3 arg6 harg6 r1 <| chunks arg5 arg6 arg7 16 <| send arg7 harg7 arg4 arg8 :
          TileProg F i PUnit) := rfl

end Cert.Kernel.Tile
end
end
-- ==== Proof.KernelIdeal.Rows.lean ====
/-
  One tile's task as a short program: both tables fetched, the buffer of 128 rows filled by column chunks of sixteen lanes,
  and the filled buffer copied into the tile's four blocks of the output.
-/
module

public import proofs.«01_k».proof.KernelIdeal

@[expose] public section

noncomputable section

namespace Cert.KernelIdeal.Tile

open Cert.KernelIdeal Idealize.ShloMosaic Idealize.SL.Sem

variable {F : FTy → Type} [FloatOps F]
variable [K0.Facts₀] [Shapes1.Facts₀] [Shapes2.Facts₀] [Shapes3.Facts₀]
open K0.Facts₀ Shapes1.Facts₀

/-- The programs of one tile's kernel. -/
abbrev TileProg (F : FTy → Type) [FloatOps F] (i : grid0.Coords) (α : Type) : Type _ :=
  Prog (TpuEff nD τ sig (Elt F) Λ₀ (.scVector ((i 0).castLE hcore0) ((i 1).castLE hsub0))) α

theorem inb_rel (a : ℕ) (ha : a < 8) (off : ℕ) (h : off + 16 ≤ 256) : ∀ x, (![a, off] : Fin 2 → ℕ) x + S1x16.size x ≤ S8x256.size x := by
  intro x; fin_cases x
  · show a + 1 ≤ 8; omega
  · exact h

theorem inb_prop (a : ℕ) (ha : a < 4) (off : ℕ) (h : off + 16 ≤ 256) : ∀ x, (![a, off] : Fin 2 → ℕ) x + S1x16.size x ≤ S4x256.size x := by
  intro x; fin_cases x
  · show a + 1 ≤ 4; omega
  · exact h

theorem inb_rep (a : ℕ) (ha : a < 128) (off : ℕ) (h : off + 16 ≤ 256) : ∀ x, (![a, off] : Fin 2 → ℕ) x + S1x16.size x ≤ S128x256.size x := by
  intro x; fin_cases x
  · show a + 1 ≤ 128; omega
  · exact h

/-- One of eight vectors, by its number. -/
@[reducible] def pick {α : Type} (v0 v1 v2 v3 v4 v5 v6 v7 : α) : ℕ → α
  | 0 => v0 | 1 => v1 | 2 => v2 | 3 => v3 | 4 => v4 | 5 => v5 | 6 => v6 | _ => v7

variable {i : grid0.Coords} {α : Type}

/-- The sixteen lanes from column `off` on of row `a` of the relation table plus those of row `p` of the
    property table, as the kernel computes them. -/
def sum (x y : Vec F S1x16 .f32) : FVec F S16 .f32 :=
  addf (shapeCast S16 x shapeCasts_S1x16_S16) (shapeCast S16 y shapeCasts_S1x16_S16)

/-- Loads the eight pairs of a column chunk and continues at their sums. -/
def head (off : ℕ) (h : off + 16 ≤ 256) (rel : Memref sig .scVector .vmem S8x256 .f32) (prop : Memref sig .scVector .vmem S4x256 .f32)
    (K : FVec F S16 .f32 → FVec F S16 .f32 → FVec F S16 .f32 → FVec F S16 .f32 → FVec F S16 .f32 → FVec F S16 .f32 → FVec F S16 .f32 → FVec F S16 .f32 → TileProg F i α) :
    TileProg F i α :=
  .op (.load rel (Rect.unit (s := S8x256) ![0, off] S1x16.size (inb_rel 0 (by decide) off h)).toLoadRect (View.loadsAt_vmem h_S1x16)) fun x0 =>
  .op (.load prop (Rect.unit (s := S4x256) ![0, off] S1x16.size (inb_prop 0 (by decide) off h)).toLoadRect (View.loadsAt_vmem h_S1x16)) fun y0 =>
  .op (.load rel (Rect.unit (s := S8x256) ![1, off] S1x16.size (inb_rel 1 (by decide) off h)).toLoadRect (View.loadsAt_vmem h_S1x16)) fun x1 =>
  .op (.load prop (Rect.unit (s := S4x256) ![1, off] S1x16.size (inb_prop 1 (by decide) off h)).toLoadRect (View.loadsAt_vmem h_S1x16)) fun y1 =>
  .op (.load rel (Rect.unit (s := S8x256) ![2, off] S1x16.size (inb_rel 2 (by decide) off h)).toLoadRect (View.loadsAt_vmem h_S1x16)) fun x2 =>
  .op (.load prop (Rect.unit (s := S4x256) ![1, off] S1x16.size (inb_prop 1 (by decide) off h)).toLoadRect (View.loadsAt_vmem h_S1x16)) fun y2 =>
  .op (.load rel (Rect.unit (s := S8x256) ![3, off] S1x16.size (inb_rel 3 (by decide) off h)).toLoadRect (View.loadsAt_vmem h_S1x16)) fun x3 =>
  .op (.load prop (Rect.unit (s := S4x256) ![1, off] S1x16.size (inb_prop 1 (by decide) off h)).toLoadRect (View.loadsAt_vmem h_S1x16)) fun y3 =>
  .op (.load rel (Rect.unit (s := S8x256) ![4, off] S1x16.size (inb_rel 4 (by decide) off h)).toLoadRect (View.loadsAt_vmem h_S1x16)) fun x4 =>
  .op (.load prop (Rect.unit (s := S4x256) ![2, off] S1x16.size (inb_prop 2 (by decide) off h)).toLoadRect (View.loadsAt_vmem h_S1x16)) fun y4 =>
  .op (.load rel (Rect.unit (s := S8x256) ![5, off] S1x16.size (inb_rel 5 (by decide) off h)).toLoadRect (View.loadsAt_vmem h_S1x16)) fun x5 =>
  .op (.load prop (Rect.unit (s := S4x256) ![2, off] S1x16.size (inb_prop 2 (by decide) off h)).toLoadRect (View.loadsAt_vmem h_S1x16)) fun y5 =>
  .op (.load rel (Rect.unit (s := S8x256) ![6, off] S1x16.size (inb_rel 6 (by decide) off h)).toLoadRect (View.loadsAt_vmem h_S1x16)) fun x6 =>
  .op (.load prop (Rect.unit (s := S4x256) ![2, off] S1x16.size (inb_prop 2 (by decide) off h)).toLoadRect (View.loadsAt_vmem h_S1x16)) fun y6 =>
  .op (.load rel (Rect.unit (s := S8x256) ![7, off] S1x16.size (inb_rel 7 (by decide) off h)).toLoadRect (View.loadsAt_vmem h_S1x16)) fun x7 =>
  .op (.load prop (Rect.unit (s := S4x256) ![3, off] S1x16.size (inb_prop 3 (by decide) off h)).toLoadRect (View.loadsAt_vmem h_S1x16)) fun y7 =>
  K (sum x0 y0) (sum x1 y1) (sum x2 y2) (sum x3 y3) (sum x4 y4) (sum x5 y5) (sum x6 y6) (sum x7 y7)

/-- The load of sixteen lanes of the buffer whose result is not used. -/
def peek (off : ℕ) (h : off + 16 ≤ 256) (rep : Memref sig .scVector .vmem S128x256 .f32) (r : ℕ) (hr : r < 128) (K : TileProg F i α) : TileProg F i α :=
  .op (.load rep (Rect.unit (s := S128x256) ![r, off] S1x16.size (inb_rep r hr off h)).toLoadRect (View.loadsAt_vmem h_S1x16)) fun _ => K

/-- The store of sixteen lanes at row `r` of the buffer. -/
def put (off : ℕ) (h : off + 16 ≤ 256) (rep : Memref sig .scVector .vmem S128x256 .f32) (r : ℕ) (hr : r < 128) (v : FVec F S16 .f32) (K : TileProg F i α) :
    TileProg F i α :=
  .op (.store rep (Rect.unit (s := S128x256) ![r, off] S1x16.size (inb_rep r hr off h)) (shapeCast S1x16 v shapeCasts_S16_S1x16)
    Finset.univ (View.stores_vmem_bits_univ h_S1x16 rfl) (.inl rfl)) fun _ => K

/-- Stores the vectors `v0 … v7` in turn into the `n` rows below row `hi` of the buffer, at column `off`,
    each after a load whose result is not used. -/
def rows (off : ℕ) (h : off + 16 ≤ 256) (rep : Memref sig .scVector .vmem S128x256 .f32)
    (v0 v1 v2 v3 v4 v5 v6 v7 : FVec F S16 .f32) (hi : ℕ) (hhi : hi ≤ 128) (n : ℕ) (K : TileProg F i α) : TileProg F i α :=
  Nat.rec (motive := fun _ => TileProg F i α) K
    (fun n ih => peek off h rep (hi - (n + 1)) (by omega) <|
      put off h rep (hi - (n + 1)) (by omega) (pick v0 v1 v2 v3 v4 v5 v6 v7 ((hi - (n + 1)) % 8)) ih)
    n

theorem rows_succ (off : ℕ) (h : off + 16 ≤ 256) (rep : Memref sig .scVector .vmem S128x256 .f32)
    (v0 v1 v2 v3 v4 v5 v6 v7 : FVec F S16 .f32) (hi : ℕ) (hhi : hi ≤ 128) (n : ℕ) (K : TileProg F i α) :
    rows off h rep v0 v1 v2 v3 v4 v5 v6 v7 hi hhi (n + 1) K
      = peek off h rep (hi - (n + 1)) (by omega)
          (put off h rep (hi - (n + 1)) (by omega) (pick v0 v1 v2 v3 v4 v5 v6 v7 ((hi - (n + 1)) % 8)) (rows off h rep v0 v1 v2 v3 v4 v5 v6 v7 hi hhi n K)) := rfl

/-- Fills the last `n` column chunks of the buffer, the sixteen lanes of each in every row. -/
def chunks (rel : Memref sig .scVector .vmem S8x256 .f32) (prop : Memref sig .scVector .vmem S4x256 .f32) (rep : Memref sig .scVector .vmem S128x256 .f32)
    (n : ℕ) (K : TileProg F i α) : TileProg F i α :=
  Nat.rec (motive := fun _ => TileProg F i α) K
    (fun n ih => head (240 - 16 * n) (by omega) rel prop fun v0 v1 v2 v3 v4 v5 v6 v7 =>
      rows (240 - 16 * n) (by omega) rep v0 v1 v2 v3 v4 v5 v6 v7 128 le_rfl 128 ih)
    n

theorem chunks_succ (rel : Memref sig .scVector .vmem S8x256 .f32) (prop : Memref sig .scVector .vmem S4x256 .f32) (rep : Memref sig .scVector .vmem S128x256 .f32)
    (n : ℕ) (K : TileProg F i α) :
    chunks rel prop rep (n + 1) K
      = head (240 - 16 * n) (by omega) rel prop fun v0 v1 v2 v3 v4 v5 v6 v7 =>
          rows (240 - 16 * n) (by omega) rep v0 v1 v2 v3 v4 v5 v6 v7 128 le_rfl 128 (chunks rel prop rep n K) := rfl

/-- The copy of a whole memref into another on a semaphore of its own, and the wait for it. -/
def fetch {s : Shape} (src : Memref sig .scVector .hbm s .f32) (hsrc : src.IsWhole) (dst : Memref sig .scVector .vmem s .f32) (hdst : dst.IsWhole) (sem : DmaSems sig S_)
    (K : TileProg F i α) : TileProg F i α :=
  .op (.enqueueDma src (.here dst) (.dma sem.sem) hsrc.wordExact hdst.wordExact ⟨Or.inl rfl, trivial⟩) fun _ =>
  .op (.waitDma2 sem.sem src dst hsrc.wordExact hdst.wordExact) fun _ => K

/-- Block `d` of the tile's 512 rows of the output. -/
def block [K0.Facts₀] (i : grid0.Coords) (out : Memref sig .scVector .hbm S16384x256 .f32) (d : Fin 4) : Memref sig .scVector .hbm S128x256 .f32 :=
  out.slice (Rect.unit (s := S16384x256) (k0_off1 i (BitVec.ofNat 32 (128 * d.val))) S128x256.size (k0_off1_inb i d)) (fun _ => rfl)

/-- The start of the copy of the filled buffer into a block. -/
def issue (rep : Memref sig .scVector .vmem S128x256 .f32) (hrep : rep.IsWhole) (out : Memref sig .scVector .hbm S128x256 .f32) (sem : DmaSems sig S_)
    (K : TileProg F i α) : TileProg F i α :=
  .op (.enqueueDma rep (.here out) (.dma sem.sem) hrep.wordExact (View.wordExact_bits rfl) ⟨Or.inl rfl, trivial⟩) fun _ => K

/-- The wait for one such copy. -/
def await (rep : Memref sig .scVector .vmem S128x256 .f32) (hrep : rep.IsWhole) (out : Memref sig .scVector .hbm S128x256 .f32) (sem : DmaSems sig S_)
    (K : TileProg F i α) : TileProg F i α :=
  .op (.waitDma2 sem.sem rep out hrep.wordExact (View.wordExact_bits rfl)) fun _ => K

/-- The four copies of the filled buffer into the tile's blocks, and the four waits. -/
def send (rep : Memref sig .scVector .vmem S128x256 .f32) (hrep : rep.IsWhole) (out : Memref sig .scVector .hbm S16384x256 .f32) (sem : DmaSems sig S_) : TileProg F i PUnit :=
  issue rep hrep (block i out 0) sem <| issue rep hrep (block i out 1) sem <|
  issue rep hrep (block i out 2) sem <| issue rep hrep (block i out 3) sem <|
  await rep hrep (block i out 0) sem <| await rep hrep (block i out 1) sem <|
  await rep hrep (block i out 2) sem <| await rep hrep (block i out 3) sem <|
  .ret ⟨⟩

end Cert.KernelIdeal.Tile
end
end
-- ==== Proof.KernelIdeal.Fill.lean ====
/-
  The fill of the buffer: row `r` becomes the sum of the relation table's row `r % 8` and the property table's row for it. Sixteen
  column chunks, each of them eight pairs of loads and 128 stores, by induction on the chunks and on the rows.
-/
module

public import proofs.«01_k».proof.Proof.KernelIdeal.Rows
public import Idealize.ShloMosaic.Lib.SparseCore.Quiescent
public import Idealize.ShloMosaic.Lib.SparseCore.Ops
public import Idealize.ShloMosaic.Lib.Pipeline.Kit
public import Idealize.ShloMosaic.Lib.Pipeline.Value
public import Idealize.ShloMosaic.Lib.ValueLayout
public import Idealize.ShloMosaic.Lib.Tactic

@[expose] public section

noncomputable section

namespace Cert.KernelIdeal.Tile

open Cert.KernelIdeal Cert.KernelIdeal.K0.Facts₀ Cert.KernelIdeal.Shapes1.Facts₀
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} [FloatOps F]

/-- The ghost state: the launch's handshakes and the transfers' counters. -/
abbrev UH : Type := URounds (GSem nD τ sig) ℕ
abbrev UU : Type := UH × Counters

local notation "𝕄" => MT nD τ sig (HIx 1) (Elt F) ℕ UU ℕ

/-! ## What the buffer is filled with -/

/-- The row of the property table that goes with each of the eight rows of the relation table. -/
@[reducible] def propRow : ℕ → Fin 4 := pick 0 1 1 1 2 2 2 3

/-- The filled buffer: row `r` is the sum of the relation table's row `r % 8` and the property table's row for it. -/
def filled (E₁ : S8x256.Idx → F .f32) (E₂ : S4x256.Idx → F .f32) : S128x256.Idx → F .f32 := fun j =>
  FloatOps.addf (E₁ (ix2 (⟨(j 0).val % 8, Nat.mod_lt _ (by decide)⟩ : Fin 8) (j 1 : Fin 256))) (E₂ (ix2 (propRow ((j 0).val % 8)) (j 1 : Fin 256)))

/-- Everything left of column `off`, and in the sixteen columns from it on the first `r` rows, is filled. -/
def Done (E₁ : S8x256.Idx → F .f32) (E₂ : S4x256.Idx → F .f32) (g : S128x256.Idx → F .f32) (off r : ℕ) : Prop :=
  ∀ j : S128x256.Idx, ((j 1).val < off ∨ ((j 1).val < off + 16 ∧ (j 0).val < r)) → g j = filled E₁ E₂ j

/-- A chunk with all of its rows filled is the next chunk with none. -/
theorem Done.next {E₁ : S8x256.Idx → F .f32} {E₂ : S4x256.Idx → F .f32} {g : S128x256.Idx → F .f32} {off : ℕ} (h : Done E₁ E₂ g off 128) :
    Done E₁ E₂ g (off + 16) 0 := fun j hj => h j (by
  have h0 : (j 0).val < 128 := (j 0).isLt
  omega)

/-- Sixteen lanes of row `a`, from column `off` on, of a table of 256 columns. -/
def lanes {n : ℕ} (E : (⟨2, ![n, 256]⟩ : Shape).Idx → F .f32) (a : Fin n) (off : ℕ) (h : off + 16 ≤ 256) : Vec F S1x16 .f32 := fun x =>
  E (ix2 a (⟨off + (x 1).val, by have : (x 1).val < 16 := (x 1).isLt; omega⟩ : Fin 256))

/-- The sums of a column chunk. -/
def rowSum [Facts] (E₁ : S8x256.Idx → F .f32) (E₂ : S4x256.Idx → F .f32) (off : ℕ) (h : off + 16 ≤ 256) (a : Fin 8) : FVec F S16 .f32 :=
  sum (lanes E₁ a off h) (lanes E₂ (propRow a.val) off h)

/-- What a memref's rectangle of one row and sixteen columns reads is the lanes there. -/
theorem read_lanes {n : ℕ} (m : Memref sig .scVector .vmem ⟨2, ![n, 256]⟩ .f32) (f : m.view.ty.Contents (Elt F)) (a : Fin n) (off : ℕ) (h : off + 16 ≤ 256)
    (inb : ∀ x, (![a.val, off] : Fin 2 → ℕ) x + S1x16.size x ≤ (⟨2, ![n, 256]⟩ : Shape).size x) :
    (m.access (Rect.unit (s := ⟨2, ![n, 256]⟩) ![a.val, off] S1x16.size inb)).read (Elt F) f = lanes (F := F) (m.view.read (Elt F) f) a off h := by
  funext x
  show m.view.read (Elt F) f _ = m.view.read (Elt F) f _
  congr 1
  refine Shape.idx_ext₂ ?_ ?_
  · have : (x 0).val < 1 := (x 0).isLt
    show a.val + 1 * (x 0).val = a.val
    omega
  · show off + 1 * (x 1).val = off + (x 1).val
    omega

/-- One more row of a chunk stored: what was filled stays so, and the row is filled. -/
theorem Done.put [Facts] {E₁ : S8x256.Idx → F .f32} {E₂ : S4x256.Idx → F .f32} (m : Memref sig .scVector .vmem S128x256 .f32) (f : m.view.ty.Contents (Elt F))
    (off : ℕ) (h : off + 16 ≤ 256) (r : ℕ) (hr : r < 128) (hd : Done E₁ E₂ (m.view.read (Elt F) f) off r) (a : Fin 8) (ha : a.val = r % 8) (v : FVec F S16 .f32)
    (hv : v = rowSum E₁ E₂ off h a) :
    Done E₁ E₂ (m.view.read (Elt F) ((m.access (Rect.unit (s := S128x256) ![r, off] S1x16.size (inb_rep r hr off h))).write (Elt F) f
      (shapeCast S1x16 v Shapes1.Facts₀.shapeCasts_S16_S1x16) Finset.univ)) off (r + 1) := by
  subst hv
  have hpay : shapeCast S1x16 (rowSum E₁ E₂ off h a) Shapes1.Facts₀.shapeCasts_S16_S1x16 = addf (s := S1x16) (lanes E₁ a off h) (lanes E₂ (propRow a.val) off h) := by
    show addf (s := S1x16) (shapeCast S1x16 (shapeCast S16 (lanes E₁ a off h) _) _) (shapeCast S1x16 (shapeCast S16 (lanes E₂ (propRow a.val) off h) _) _) = _
    rw [shapeCast_shapeCast, shapeCast_shapeCast]
  rw [hpay]
  intro j hj
  by_cases hin : j ∈ Finset.univ.map (Rect.unit (s := S128x256) ![r, off] S1x16.size (inb_rep r hr off h)).emb
  · obtain ⟨x, -, rfl⟩ := Finset.mem_map.mp hin
    rw [View.read_slice_write_emb _ _ _ (Finset.mem_univ x)]
    have hx0 : (x 0).val < 1 := (x 0).isLt
    have e0 : ((Rect.unit (s := S128x256) ![r, off] S1x16.size (inb_rep r hr off h)).emb x 0).val = r := by
      show r + 1 * (x 0).val = r
      omega
    have e1 : ((Rect.unit (s := S128x256) ![r, off] S1x16.size (inb_rep r hr off h)).emb x 1).val = off + (x 1).val := by
      show off + 1 * (x 1).val = _
      omega
    show FloatOps.addf (E₁ _) (E₂ _) = FloatOps.addf (E₁ _) (E₂ _)
    congr 2
    · refine Shape.idx_ext₂ ?_ ?_
      · show a.val = _ % 8
        rw [e0, ha]
      · exact e1.symm
    · refine Shape.idx_ext₂ ?_ ?_
      · show (propRow a.val).val = (propRow (_ % 8)).val
        rw [e0, ha]
      · exact e1.symm
  · rw [View.read_slice_write_of_not_mem _ _ _ _ hin]
    refine hd j ?_
    rcases hj with hj | ⟨hj, hj'⟩
    · exact .inl hj
    · by_contra hc
      refine hin ((Rect.map_emb_univ _).symm ▸ Rect.mem_set_unit.mpr fun x => ?_)
      fin_cases x
      · show r ≤ (j 0).val ∧ (j 0).val < r + 1
        omega
      · show off ≤ (j 1).val ∧ (j 1).val < off + 16
        omega

/-! ## The fill, run -/

section Run

variable [Facts] (i : grid0.Coords) (d : Dev nD)

/-- The tile of a grid coordinate. -/
abbrev thr : Thread nD τ := V d ((i 0).castLE hcore0) ((i 1).castLE hsub0)

/-- The weakest precondition of a tile's program. -/
abbrev tileWp {α : Type} (p : TileProg F i α) (Q : α → sProp 𝕄) : sProp 𝕄 :=
  wp frame (wpE (defs₀ (F := F)) Variants.none (thr i d) none) Set.univ p Q

variable {i d}

/-- A load of lanes of a table held whole continues at the lanes. -/
theorem wp_lanes {α : Type} {Q : α → sProp 𝕄} {n : ℕ} (m : Memref sig .scVector .vmem ⟨2, ![n, 256]⟩ .f32) (f : m.view.ty.Contents (Elt F)) (a : Fin n) (off : ℕ) (h : off + 16 ≤ 256)
    (inb : ∀ x, (![a.val, off] : Fin 2 → ℕ) x + S1x16.size x ≤ (⟨2, ![n, 256]⟩ : Shape).size x)
    (hl : m.view.LoadsAt (Rect.unit (s := ⟨2, ![n, 256]⟩) ![a.val, off] S1x16.size inb).toLoadRect) (k : Vec F S1x16 .f32 → TileProg F i α) :
    (m.view.loc (thr i d) ↦{fullShare} f : sProp 𝕄)
      ⊢ iprop(((m.view.loc (thr i d) ↦{fullShare} f) -∗ tileWp i d (k (lanes (F := F) (m.view.read (Elt F) f) a off h)) Q)
          -∗ tileWp i d (.op (.load m (Rect.unit (s := ⟨2, ![n, 256]⟩) ![a.val, off] S1x16.size inb).toLoadRect hl) k) Q) := by
  rw [← read_lanes m f a off h inb]
  exact wp_load_rect Variants.none (thr i d) none Set.univ (m := m) (r := Rect.unit (s := ⟨2, ![n, 256]⟩) ![a.val, off] S1x16.size inb) (hl := hl) (k := k) (Finset.subset_univ _)

variable (rel : Memref sig .scVector .vmem S8x256 .f32) (f₁ : rel.view.ty.Contents (Elt F))
  (prop : Memref sig .scVector .vmem S4x256 .f32) (f₂ : prop.view.ty.Contents (Elt F))

/-- The loads of a column chunk continue at its eight sums. -/
theorem wp_head {α : Type} {Q : α → sProp 𝕄} (off : ℕ) (h : off + 16 ≤ 256)
    (K : FVec F S16 .f32 → FVec F S16 .f32 → FVec F S16 .f32 → FVec F S16 .f32 → FVec F S16 .f32 → FVec F S16 .f32 → FVec F S16 .f32 → FVec F S16 .f32 → TileProg F i α) :
    iprop((rel.view.loc (thr i d) ↦{fullShare} f₁) ∗ (prop.view.loc (thr i d) ↦{fullShare} f₂))
      ⊢ iprop((((rel.view.loc (thr i d) ↦{fullShare} f₁) ∗ (prop.view.loc (thr i d) ↦{fullShare} f₂)) -∗
            tileWp i d (K (rowSum (rel.view.read (Elt F) f₁) (prop.view.read (Elt F) f₂) off h 0) (rowSum (rel.view.read (Elt F) f₁) (prop.view.read (Elt F) f₂) off h 1)
              (rowSum (rel.view.read (Elt F) f₁) (prop.view.read (Elt F) f₂) off h 2) (rowSum (rel.view.read (Elt F) f₁) (prop.view.read (Elt F) f₂) off h 3)
              (rowSum (rel.view.read (Elt F) f₁) (prop.view.read (Elt F) f₂) off h 4) (rowSum (rel.view.read (Elt F) f₁) (prop.view.read (Elt F) f₂) off h 5)
              (rowSum (rel.view.read (Elt F) f₁) (prop.view.read (Elt F) f₂) off h 6) (rowSum (rel.view.read (Elt F) f₁) (prop.view.read (Elt F) f₂) off h 7)) Q)
          -∗ tileWp i d (head off h rel prop K) Q) := by
  iintro ⟨H₁, H₂⟩ Hk
  unfold head
  iapply (wp_lanes rel f₁ 0 off h) $$ H₁; iintro H₁
  iapply (wp_lanes prop f₂ 0 off h) $$ H₂; iintro H₂
  iapply (wp_lanes rel f₁ 1 off h) $$ H₁; iintro H₁
  iapply (wp_lanes prop f₂ 1 off h) $$ H₂; iintro H₂
  iapply (wp_lanes rel f₁ 2 off h) $$ H₁; iintro H₁
  iapply (wp_lanes prop f₂ 1 off h) $$ H₂; iintro H₂
  iapply (wp_lanes rel f₁ 3 off h) $$ H₁; iintro H₁
  iapply (wp_lanes prop f₂ 1 off h) $$ H₂; iintro H₂
  iapply (wp_lanes rel f₁ 4 off h) $$ H₁; iintro H₁
  iapply (wp_lanes prop f₂ 2 off h) $$ H₂; iintro H₂
  iapply (wp_lanes rel f₁ 5 off h) $$ H₁; iintro H₁
  iapply (wp_lanes prop f₂ 2 off h) $$ H₂; iintro H₂
  iapply (wp_lanes rel f₁ 6 off h) $$ H₁; iintro H₁
  iapply (wp_lanes prop f₂ 2 off h) $$ H₂; iintro H₂
  iapply (wp_lanes rel f₁ 7 off h) $$ H₁; iintro H₁
  iapply (wp_lanes prop f₂ 3 off h) $$ H₂; iintro H₂
  iapply Hk
  isplitl [H₁] <;> iassumption

variable (rep : Memref sig .scVector .vmem S128x256 .f32)

/-- One of eight, by its number below eight. -/
theorem pick_fin {β : Type} (w : Fin 8 → β) (a : Fin 8) : pick (w 0) (w 1) (w 2) (w 3) (w 4) (w 5) (w 6) (w 7) a.val = w a := by
  fin_cases a <;> rfl

/-- The load of sixteen lanes of a row leaves the buffer as it is. -/
theorem wp_peek {α : Type} {Q : α → sProp 𝕄} (f : rep.view.ty.Contents (Elt F)) (r : ℕ) (hr : r < 128) (off : ℕ) (h : off + 16 ≤ 256) (K : TileProg F i α) :
    (rep.view.loc (thr i d) ↦{fullShare} f : sProp 𝕄)
      ⊢ iprop(((rep.view.loc (thr i d) ↦{fullShare} f) -∗ tileWp i d K Q) -∗ tileWp i d (peek off h rep r hr K) Q) :=
  wp_load Variants.none (thr i d) none Set.univ (m := rep)
    (r := (Rect.unit (s := S128x256) ![r, off] S1x16.size (inb_rep r hr off h)).toLoadRect) (k := fun _ => K) (Finset.subset_univ _)

/-- The store of sixteen lanes of a row continues at the buffer with the lanes stored. -/
theorem wp_put {α : Type} {Q : α → sProp 𝕄} (f : rep.view.ty.Contents (Elt F)) (r : ℕ) (hr : r < 128) (off : ℕ) (h : off + 16 ≤ 256)
    (v : FVec F S16 .f32) (K : TileProg F i α) :
    (rep.view.loc (thr i d) ↦{fullShare} f : sProp 𝕄)
      ⊢ iprop(((rep.view.loc (thr i d) ↦{fullShare} ((rep.access (Rect.unit (s := S128x256) ![r, off] S1x16.size (inb_rep r hr off h))).write (Elt F) f
            (shapeCast S1x16 v shapeCasts_S16_S1x16) Finset.univ)) -∗ tileWp i d K Q)
          -∗ tileWp i d (put off h rep r hr v K) Q) :=
  wp_store Variants.none (thr i d) none Set.univ (m := rep)
    (r := Rect.unit (s := S128x256) ![r, off] S1x16.size (inb_rep r hr off h)) (k := fun _ => K) (Finset.subset_univ _)

/-- The stores of a chunk's rows, the last `n` of them, from the rows before them filled: all its rows are. -/
theorem wp_rows {α : Type} {Q : α → sProp 𝕄} (E₁ : S8x256.Idx → F .f32) (E₂ : S4x256.Idx → F .f32) (off : ℕ) (h : off + 16 ≤ 256) (K : TileProg F i α) :
    ∀ (n : ℕ), n ≤ 128 → ∀ f : rep.view.ty.Contents (Elt F), Done E₁ E₂ (rep.view.read (Elt F) f) off (128 - n) →
    (rep.view.loc (thr i d) ↦{fullShare} f : sProp 𝕄)
      ⊢ iprop((∀ g : rep.view.ty.Contents (Elt F), ⌜Done E₁ E₂ (rep.view.read (Elt F) g) off 128⌝ -∗ (rep.view.loc (thr i d) ↦{fullShare} g) -∗ tileWp i d K Q)
          -∗ tileWp i d (rows off h rep (rowSum E₁ E₂ off h 0) (rowSum E₁ E₂ off h 1) (rowSum E₁ E₂ off h 2) (rowSum E₁ E₂ off h 3)
              (rowSum E₁ E₂ off h 4) (rowSum E₁ E₂ off h 5) (rowSum E₁ E₂ off h 6) (rowSum E₁ E₂ off h 7) 128 le_rfl n K) Q)
  | 0, _, f, hd => by
    iintro H Hk
    iapply Hk $$ %f %hd H
  | n + 1, hn, f, hd => by
    iintro H Hk
    rw [rows_succ]
    iapply (wp_peek rep f (128 - (n + 1)) _ off h) $$ H
    iintro H
    iapply (wp_put rep f (128 - (n + 1)) _ off h) $$ H
    iintro H
    iapply (wp_rows E₁ E₂ off h K n (by omega) _ ?_) $$ H
    · have := Done.put rep f off h (128 - (n + 1)) (by omega) hd ⟨(128 - (n + 1)) % 8, Nat.mod_lt _ (by decide)⟩ rfl _
        (pick_fin (rowSum E₁ E₂ off h) ⟨(128 - (n + 1)) % 8, Nat.mod_lt _ (by decide)⟩)
      rwa [show 128 - (n + 1) + 1 = 128 - n by omega] at this
    iexact Hk

/-- The fill of the last `n` column chunks, from the chunks before them filled: the buffer is. -/
theorem wp_chunks {α : Type} {Q : α → sProp 𝕄} (K : TileProg F i α) :
    ∀ (n : ℕ), n ≤ 16 → ∀ f : rep.view.ty.Contents (Elt F), Done (rel.view.read (Elt F) f₁) (prop.view.read (Elt F) f₂) (rep.view.read (Elt F) f) (256 - 16 * n) 0 →
    iprop((rel.view.loc (thr i d) ↦{fullShare} f₁) ∗ (prop.view.loc (thr i d) ↦{fullShare} f₂) ∗ (rep.view.loc (thr i d) ↦{fullShare} f))
      ⊢ iprop((∀ g : rep.view.ty.Contents (Elt F), ⌜rep.view.read (Elt F) g = filled (rel.view.read (Elt F) f₁) (prop.view.read (Elt F) f₂)⌝ -∗
            ((rel.view.loc (thr i d) ↦{fullShare} f₁) ∗ (prop.view.loc (thr i d) ↦{fullShare} f₂) ∗ (rep.view.loc (thr i d) ↦{fullShare} g)) -∗ tileWp i d K Q)
          -∗ tileWp i d (chunks rel prop rep n K) Q)
  | 0, _, f, hd => by
    iintro H Hk
    iapply Hk $$ %f %(funext fun j => hd j (.inl (j 1).isLt)) H
  | n + 1, hn, f, hd => by
    iintro ⟨H₁, H₂, H₃⟩ Hk
    rw [chunks_succ]
    iapply (wp_head rel f₁ prop f₂ (240 - 16 * n) _) $$ [$H₁ $H₂]
    iintro ⟨H₁, H₂⟩
    iapply (wp_rows rep (rel.view.read (Elt F) f₁) (prop.view.read (Elt F) f₂) (240 - 16 * n) _ _ 128 le_rfl f ?_) $$ H₃
    · rwa [show 256 - 16 * (n + 1) = 240 - 16 * n by omega] at hd
    iintro %g %hg H₃
    iapply (wp_chunks K n (by omega) g ?_) $$ [H₁ H₂ H₃]
    · rw [show 256 - 16 * n = 240 - 16 * n + 16 by omega]
      exact hg.next
    · isplitl [H₁]; · iexact H₁
      isplitl [H₂] <;> iassumption
    iexact Hk

end Run

end Cert.KernelIdeal.Tile
end
end
-- ==== Proof.KernelIdeal.Send.lean ====
/-
  The four copies of the filled buffer into the tile's blocks of the output, all on one semaphore, and the four waits.
-/
module

public import proofs.«01_k».proof.Proof.KernelIdeal.Fill
public import proofs.«01_k».proof.Proof.Gen.KernelIdeal
public import Idealize.ShloMosaic.Lib.Batch
public import Idealize.ShloMosaic.Lib.ShareLeaves
public import Idealize.ShloMosaic.Lib.Ring.AtN

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} [FloatOps F]

local notation "𝕄" => MT nD τ sig (HIx 1) (Elt F) ℕ UU ℕ

local notation "oW" => (Memref.whole Cert.KernelIdeal.main_v0_scv : Memref Cert.KernelIdeal.sig Kind.scVector Space.hbm Cert.KernelIdeal.S16384x256 EltTy.f32)
local notation "gW" => (Memref.whole Cert.KernelIdeal.cc0_scratch2 : Memref Cert.KernelIdeal.sig Kind.scVector Space.vmem Cert.KernelIdeal.S128x256 EltTy.f32)

/-- The output, flat: every 128 rows of it are the filled buffer. -/
def flat (E₁ : S8x256.Idx → F .f32) (E₂ : S4x256.Idx → F .f32) : S16384x256.Idx → F .f32 := fun j =>
  filled E₁ E₂ (ix2 (⟨(j 0).val % 128, Nat.mod_lt _ (by decide)⟩ : Fin 128) (j 1 : Fin 256))

variable (i : grid0.Coords) (d : Dev nD)

/-- The element of the output that element `x` of the tile's block `k` is. -/
abbrev blockEmb (k : Fin 4) (x : S128x256.Idx) : S16384x256.Idx := (block i oW k).view.emb x

/-- The tile's block `k` holds the rows from `1024 * s + 512 * c + 128 * k` on. -/
theorem block_emb (k : Fin 4) (x : S128x256.Idx) :
    ((blockEmb i k x) 0).val = 1024 * (i 1).val + 512 * (i 0).val + 128 * k.val + (x 0).val ∧ ((blockEmb i k x) 1).val = (x 1).val := by
  constructor
  · show (k0_off1 i (BitVec.ofNat 32 (128 * k.val))) 0 + 1 * (x 0).val = _
    rw [k0_off1_eq]; simp
  · show (k0_off1 i (BitVec.ofNat 32 (128 * k.val))) 1 + 1 * (x 1).val = _
    rw [k0_off1_eq]; simp

/-- The flat output, on the tile's block `k`, is the filled buffer. -/
theorem flat_block (E₁ : S8x256.Idx → F .f32) (E₂ : S4x256.Idx → F .f32) (k : Fin 4) (x : S128x256.Idx) :
    flat E₁ E₂ (blockEmb i k x) = filled E₁ E₂ x := by
  obtain ⟨h0, h1⟩ := block_emb i k x
  unfold flat
  congr 1
  refine Shape.idx_ext₂ ?_ ?_
  · show ((blockEmb i k x) 0).val % 128 = (x 0).val
    have : (x 0).val < 128 := (x 0).isLt
    rw [h0]; omega
  · exact h1

/-- What block `k` holds once the buffer has landed in it, over what it held before. -/
abbrev landed (fd : (k : Fin 4) → Buf (Elt F) ((block i oW k).view.loc (thr i d))) (fr : Buf (Elt F) ((gW).view.loc (thr i d))) (k : Fin 4) :
    Buf (Elt F) ((block i oW k).view.loc (thr i d)) :=
  (block i oW k).view.write (Elt F) (fd k) ((gW).view.read (Elt F) fr) Finset.univ

/-- What copy `k` delivers: block `k` landed, and the share of the buffer it read. -/
abbrev deliv (fd : (k : Fin 4) → Buf (Elt F) ((block i oW k).view.loc (thr i d))) (fr : Buf (Elt F) ((gW).view.loc (thr i d))) (k : Fin 4) : sProp 𝕄 :=
  iprop(((block i oW k).view.loc (thr i d) ↦[(block i oW k).view.set]{fullShare} landed i d fd fr k)
    ∗ ((gW).view.loc (thr i d) ↦[(gW).view.set]{leaf 2 fullShare k} fr))

/-- The semaphore the copies are counted on. -/
abbrev sm : SemLoc sig := .dma cc0_scratch3.sem

/-- The blocks are of one size, so the copies into them are counted alike. -/
theorem amount_block (k : Fin 4) : (block i oW k).view.amount sm = (block i oW 0).view.amount sm := rfl

variable {i d} {N : ℕ} (hN : ∀ k, (block i oW k).view.amount sm = N)
  {fd : (k : Fin 4) → Buf (Elt F) ((block i oW k).view.loc (thr i d))} {fr : Buf (Elt F) ((gW).view.loc (thr i d))}
include hN

/-- The start of copy `k` takes block `k` and a share of the buffer. -/
theorem wp_issue {α : Type} {Q : α → sProp 𝕄} (k : Fin 4) (K : TileProg F i α) :
    iprop(((gW).view.loc (thr i d) ↦[(gW).view.set]{leaf 2 fullShare k} fr)
        ∗ ((block i oW k).view.loc (thr i d) ↦[(block i oW k).view.set]{fullShare} fd k)
        ∗ Transfers.Batch countersEmb (thr i d) sm (default : HIx 1) N (deliv i d fd fr) k.val 0)
      ⊢ iprop((Transfers.Batch countersEmb (thr i d) sm (default : HIx 1) N (deliv i d fd fr) (k.val + 1) 0 -∗ tileWp i d K Q)
        -∗ tileWp i d (issue gW (Memref.isWhole_whole _) (block i oW k) cc0_scratch3 K) Q) :=
  Transfers.wp_dmaBatch countersEmb Variants.none (thr i d) none (src := gW) (via := ReadAs.same) (dst := block i oW k) (sm := sm) (k := fun _ => K)
    (fs := fr) (fd := fd k) (default : HIx 1) N (hN k) (Finset.Subset.refl _) k.isLt (Nat.zero_le _) .rfl

/-- A wait that is not the last takes a copy's units off the count. -/
theorem wp_await {α : Type} {Q : α → sProp 𝕄} (k : Fin 4) (K : TileProg F i α) {u : ℕ} (hu : u + N < N * 4) {O : CellTallies nD τ sig (HIx 1)} {W : Waits sig (HIx 1)} :
    iprop(Transfers.Batch countersEmb (thr i d) sm (default : HIx 1) N (deliv i d fd fr) 4 u ∗ owes (thr i d) O W ∗ MayWait (thr i d) sm (default : HIx 1) O)
      ⊢ iprop((iprop(Transfers.Batch countersEmb (thr i d) sm (default : HIx 1) N (deliv i d fd fr) 4 (u + N) ∗ owes (thr i d) O (insert (sm, default) W)) -∗ tileWp i d K Q)
        -∗ tileWp i d (await gW (Memref.isWhole_whole _) (block i oW k) cc0_scratch3 K) Q) :=
  Transfers.wp_waitBatchO countersEmb Variants.none (thr i d) none (srcw := gW) (dstw := block i oW k) (k := fun _ => K) (default : HIx 1) (hN k) hu

/-- The last wait hands back what the copies delivered. -/
theorem wp_await_last {α : Type} {Q : α → sProp 𝕄} (k : Fin 4) (K : TileProg F i α) (hN0 : 0 < N) {u : ℕ} (hu : u + N = N * 4) {O : CellTallies nD τ sig (HIx 1)} {W : Waits sig (HIx 1)} :
    iprop(Transfers.Batch countersEmb (thr i d) sm (default : HIx 1) N (deliv i d fd fr) 4 u ∗ owes (thr i d) O W ∗ MayWait (thr i d) sm (default : HIx 1) O)
      ⊢ iprop((iprop(bigSep Finset.univ (deliv i d fd fr) ∗ semVal (thr i d, sm) 0 ∗ owes (thr i d) O (insert (sm, default) W)) -∗ tileWp i d K Q)
        -∗ tileWp i d (await gW (Memref.isWhole_whole _) (block i oW k) cc0_scratch3 K) Q) :=
  Transfers.wp_waitBatchLastO countersEmb Variants.none (thr i d) none (srcw := gW) (dstw := block i oW k) (k := fun _ => K) (default : HIx 1) (hN k) hN0 hu

omit hN
variable (fd fr)

/-- The four copies and waits hand back the blocks, each with the buffer landed in it, and the buffer. -/
theorem wp_send {Q : PUnit → sProp 𝕄} (O : CellTallies nD τ sig (HIx 1)) (W : Waits sig (HIx 1)) :
    iprop((bigSep Finset.univ fun k : Fin 4 => ((block i oW k).view.loc (thr i d) ↦[(block i oW k).view.set]{fullShare} fd k : sProp 𝕄))
        ∗ ((gW).view.loc (thr i d) ↦{fullShare} fr)
        ∗ semVal (thr i d, sm) 0 ∗ owes (thr i d) O W ∗ Transfers.MayWaits (thr i d) (default : HIx 1) O)
      ⊢ iprop((∀ W', ⌜∀ p ∈ W', p ∈ W ∨ p.2 = none⌝ -∗
          ((bigSep Finset.univ fun k : Fin 4 => ((block i oW k).view.loc (thr i d) ↦[(block i oW k).view.set]{fullShare} landed i d fd fr k))
            ∗ ((gW).view.loc (thr i d) ↦{fullShare} fr)
            ∗ semVal (thr i d, sm) 0 ∗ owes (thr i d) O W') -∗ Q ⟨⟩)
        -∗ tileWp i d (send gW (Memref.isWhole_whole _) oW cc0_scratch3) Q) := by
  obtain ⟨N, hN, hN0⟩ : ∃ N, (∀ k, (block i oW k).view.amount sm = N) ∧ 0 < N :=
    ⟨_, amount_block i, View.amount_pos _ _ (by decide)⟩
  rw [show ((gW).view.loc (thr i d) ↦{fullShare} fr : sProp 𝕄) = (gW).view.loc (thr i d) ↦[(gW).view.set]{fullShare} fr by
      rw [show (gW).view.set = Finset.univ from View.set_whole _],
    pointsTo_leaves (gW).view.set fr 2 fullShare, Ring.bigSep_fin4]
  iintro ⟨⟨Ho0, Ho1, Ho2, Ho3⟩, Hg, Hsem, HO, #Hmw⟩ Hk
  ihave Hg' := (Entails.of_eq (Ring.bigSep_fin4 fun k : Fin 4 => ((gW).view.loc (thr i d) ↦[(gW).view.set]{leaf 2 fullShare k} fr : sProp 𝕄))) $$ Hg
  icases Hg' with ⟨Hg0, Hg1, Hg2, Hg3⟩
  imod (Transfers.batch_alloc' (Lvl := ℕ) countersEmb (thr i d) (default : HIx 1) N (deliv i d fd fr) (sm := sm) (E := Set.univ)) $$ Hsem with HB
  unfold send
  iapply (wp_issue hN 0) $$ [$Hg0 $Ho0 $HB]
  iintro HB
  iapply (wp_issue hN 1) $$ [$Hg1 $Ho1 $HB]
  iintro HB
  iapply (wp_issue hN 2) $$ [$Hg2 $Ho2 $HB]
  iintro HB
  iapply (wp_issue hN 3) $$ [$Hg3 $Ho3 $HB]
  iintro HB
  iapply (wp_await hN 0 _ (u := 0) (by omega)) $$ [HB HO]
  · isplitl [HB]; · iexact HB
    isplitl [HO]; · iexact HO
    iapply (Transfers.MayWaits.elim sm) $$ Hmw
  iintro ⟨HB, HO⟩
  iapply (wp_await hN 1 _ (u := 0 + N) (by omega)) $$ [HB HO]
  · isplitl [HB]; · iexact HB
    isplitl [HO]; · iexact HO
    iapply (Transfers.MayWaits.elim sm) $$ Hmw
  iintro ⟨HB, HO⟩
  iapply (wp_await hN 2 _ (u := 0 + N + N) (by omega)) $$ [HB HO]
  · isplitl [HB]; · iexact HB
    isplitl [HO]; · iexact HO
    iapply (Transfers.MayWaits.elim sm) $$ Hmw
  iintro ⟨HB, HO⟩
  iapply (wp_await_last hN 3 _ hN0 (u := 0 + N + N + N) (by omega)) $$ [HB HO]
  · isplitl [HB]; · iexact HB
    isplitl [HO]; · iexact HO
    iapply (Transfers.MayWaits.elim sm) $$ Hmw
  rw [bigSep_sep']
  iintro ⟨⟨Ho, Hg⟩, Hsem, HO⟩
  unfold tileWp; rw [wp_ret]; imodintro
  iapply Hk $$ %_ %_ [$Ho $Hg $Hsem $HO]
  intro p hp
  simp only [Finset.mem_insert] at hp
  rcases hp with hp | hp | hp | hp | hp
  · exact .inr (hp ▸ rfl)
  · exact .inr (hp ▸ rfl)
  · exact .inr (hp ▸ rfl)
  · exact .inr (hp ▸ rfl)
  · exact .inl hp

/-- Once the filled buffer has landed in block `k`, the block holds its part of the flat output. -/
theorem landed_flat (E₁ : S8x256.Idx → F .f32) (E₂ : S4x256.Idx → F .f32) (hfr : (gW).view.read (Elt F) fr = filled E₁ E₂) (k : Fin 4) :
    ((block i oW k).view.loc (thr i d) ↦[(block i oW k).view.set]{fullShare} landed i d fd fr k : sProp 𝕄)
      = (block i oW k).view.loc (thr i d) ↦[(block i oW k).view.set]{fullShare} flat E₁ E₂ := by
  refine pointsTo_congr fun j hj => ?_
  obtain ⟨x, -, rfl⟩ := Finset.mem_map.mp hj
  refine (View.write_emb_of_mem _ _ (Finset.mem_univ x)).trans ?_
  rw [hfr]
  exact (cast_eq _ _).trans (flat_block i E₁ E₂ k x).symm

/-- So do the four blocks together. -/
theorem blocks_landed (E₁ : S8x256.Idx → F .f32) (E₂ : S4x256.Idx → F .f32) (hfr : (gW).view.read (Elt F) fr = filled E₁ E₂) :
    (bigSep Finset.univ fun k : Fin 4 => ((block i oW k).view.loc (thr i d) ↦[(block i oW k).view.set]{fullShare} landed i d fd fr k : sProp 𝕄))
      = bigSep Finset.univ fun k : Fin 4 => (block i oW k).view.loc (thr i d) ↦[(block i oW k).view.set]{fullShare} flat E₁ E₂ :=
  bigSep_congr fun k _ => landed_flat fd fr E₁ E₂ hfr k

end Cert.KernelIdeal.Tile
end
end
-- ==== Proof.KernelIdeal.Body.lean ====
/-
  The printed body of the task is the short program of Rows.lean: two fetches, sixteen column chunks, four copies out.
-/
module

public import proofs.«01_k».proof.Proof.KernelIdeal.Rows

@[expose] public section

noncomputable section

namespace Cert.KernelIdeal.Tile

open Cert.KernelIdeal Idealize.ShloMosaic Idealize.SL.Sem

variable {F : FTy → Type} [FloatOps F] [Facts]

set_option maxRecDepth 1000000 in
set_option maxHeartbeats 4000000 in
/-- The printed body fetches the two tables, fills the buffer in sixteen column chunks and sends it to the tile's four
    blocks. -/
theorem body_eq (i : grid0.Coords) (arg2 : Memref sig .scVector .hbm S8x256 .f32) (harg2 : arg2.IsWhole)
    (arg3 : Memref sig .scVector .hbm S4x256 .f32) (harg3 : arg3.IsWhole) (arg4 : Memref sig .scVector .hbm S16384x256 .f32) (harg4 : arg4.IsWhole)
    (arg5 : Memref sig .scVector .vmem S8x256 .f32) (harg5 : arg5.IsWhole) (arg6 : Memref sig .scVector .vmem S4x256 .f32) (harg6 : arg6.IsWhole)
    (arg7 : Memref sig .scVector .vmem S128x256 .f32) (harg7 : arg7.IsWhole) (arg8 r0 r1 : DmaSems sig S_) :
    cc0_sc_kernel (F := F) i arg2 harg2 arg3 harg3 arg4 harg4 arg5 harg5 arg6 harg6 arg7 harg7 arg8 r0 r1
      = (fetch arg2 harg2 arg5 harg5 r0 <| fetch arg3 harg3 arg6 harg6 r1 <| chunks arg5 arg6 arg7 16 <| send arg7 harg7 arg4 arg8 :
          TileProg F i PUnit) := rfl

end Cert.KernelIdeal.Tile
end
end
-- ==== Proof.KernelIdeal.Task.lean ====
/-
  One tile's task: from its shares of the two tables and its blocks of the output to the blocks at the flat output.
-/
module

public import proofs.«01_k».proof.Proof.KernelIdeal.Send
public import proofs.«01_k».proof.Proof.KernelIdeal.Body

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "eW" => (Memref.whole Cert.KernelIdeal.main_arg1_scv : Memref Cert.KernelIdeal.sig Kind.scVector Space.hbm Cert.KernelIdeal.S8x256 EltTy.f32)
local notation "pW" => (Memref.whole Cert.KernelIdeal.main_arg2_scv : Memref Cert.KernelIdeal.sig Kind.scVector Space.hbm Cert.KernelIdeal.S4x256 EltTy.f32)
local notation "oW" => (Memref.whole Cert.KernelIdeal.main_v0_scv : Memref Cert.KernelIdeal.sig Kind.scVector Space.hbm Cert.KernelIdeal.S16384x256 EltTy.f32)
local notation "aW" => (Memref.whole Cert.KernelIdeal.cc0_scratch0 : Memref Cert.KernelIdeal.sig Kind.scVector Space.vmem Cert.KernelIdeal.S8x256 EltTy.f32)
local notation "bW" => (Memref.whole Cert.KernelIdeal.cc0_scratch1 : Memref Cert.KernelIdeal.sig Kind.scVector Space.vmem Cert.KernelIdeal.S4x256 EltTy.f32)
local notation "gW" => (Memref.whole Cert.KernelIdeal.cc0_scratch2 : Memref Cert.KernelIdeal.sig Kind.scVector Space.vmem Cert.KernelIdeal.S128x256 EltTy.f32)

/-! ## The program as the launch sees it -/

abbrev ΛP : Labels := Pipeline.Sig Λ₀ (Fin 0) fun p => (pcfgs (F := F) p).Adm
abbrev K : SparseCore.Cfg τ sig (ΛP (F := F)) 1 := sc (F := F)

/-- The launch's semaphores are apart and unscoped, and no buffer of a SparseCore is its tasks' shared one. -/
theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays -/

/-- The relation table, the property table, the flat output and the result, as the launch names them. -/
abbrev rLoc (d : Dev nD) : Loc nD τ sig := (SparseCore.T d).loc main_arg1
abbrev pLoc (d : Dev nD) : Loc nD τ sig := (SparseCore.T d).loc main_arg2
abbrev oLoc (d : Dev nD) : Loc nD τ sig := (SparseCore.T d).loc main_v0

variable (i : grid0.Coords) (d : Dev nD)

/-- The elements of the flat output in the tile's block `k`. -/
abbrev blockSet (k : Fin 4) : Finset S16384x256.Idx := (block i oW k).view.set

/-- The tile's blocks, named as its task names them, are parts of the flat output. -/
theorem blocks_own (f : Buf (Elt F) (oLoc d)) :
    (bigSep Finset.univ fun k : Fin 4 => ((block i oW k).view.loc (thr i d) ↦[(block i oW k).view.set]{fullShare} f : sProp 𝕄))
      = bigSep Finset.univ fun k : Fin 4 => oLoc d ↦[blockSet i k]{fullShare} f := rfl

/-! ## The task's own semaphores and buffers -/

omit [FloatOps F] in
theorem ownSems0_tile :
    (ownSems0 (thr i d) : sProp 𝕄)
      = iprop(semVal (thr i d, .dma cc0_scoped0.sem) 0 ∗ semVal (thr i d, .dma cc0_scoped1.sem) 0 ∗ semVal (thr i d, sm) 0
          ∗ bigSep ((((ownCells (thr i d)).erase (thr i d, .dma cc0_scoped0.sem)).erase (thr i d, .dma cc0_scoped1.sem)).erase (thr i d, sm)) fun g => semVal g 0) := by
  have hown (s : DmaSem sig) (h : (SemLoc.dma s : SemLoc sig).isScoped .scVector = true) : ((thr i d, SemLoc.dma s) : GSem nD τ sig) ∈ ownCells (thr i d) :=
    mem_ownCells.mpr ⟨rfl, h⟩
  have hne (s s' : DmaSem sig) (h : (SemLoc.dma s : SemLoc sig) ≠ .dma s') : ((thr i d, SemLoc.dma s) : GSem nD τ sig) ≠ (thr i d, .dma s') :=
    fun e => h (congrArg Prod.snd e)
  unfold SparseCore.Cfg.ownSems0
  rw [SparseCore.bigSep_erase' (hown cc0_scoped0.sem (by decide)),
    SparseCore.bigSep_erase' (Finset.mem_erase.mpr ⟨hne cc0_scoped1.sem cc0_scoped0.sem (by decide), hown _ (by decide)⟩),
    SparseCore.bigSep_erase' (Finset.mem_erase.mpr ⟨hne cc0_scratch3.sem cc0_scoped1.sem (by decide),
      Finset.mem_erase.mpr ⟨hne cc0_scratch3.sem cc0_scoped0.sem (by decide), hown _ (by decide)⟩⟩)]

/-- The processor of the tile. -/
abbrev proc : Proc τ := .scVector ((i 0).castLE K0.Facts₀.hcore0) ((i 1).castLE K0.Facts₀.hsub0)

omit [FloatOps F] in
theorem ownBufs_tile :
    (ownBufs (thr i d) : sProp 𝕄)
      = iprop((∃ f, (aW).view.loc (thr i d) ↦{fullShare} f) ∗ (∃ f, (bW).view.loc (thr i d) ↦{fullShare} f) ∗ (∃ f, (gW).view.loc (thr i d) ↦{fullShare} f)
          ∗ bigSep ((((ownRefs (τ := τ) (proc i)).erase ((proc i).devRef cc0_scratch0)).erase ((proc i).devRef cc0_scratch1)).erase ((proc i).devRef cc0_scratch2))
              fun b => iprop(∃ f, ((d, b) : Loc nD τ sig) ↦{fullShare} f)) := by
  have hne (r r' : Ref sig .scVector) (h : r ≠ r') : (proc i).devRef r ≠ (proc i).devRef r' := fun e => h (Proc.devRef_injective _ e)
  unfold SparseCore.Cfg.ownBufs
  refine (SparseCore.bigSep_erase' (SparseCore.Cfg.mem_ownRefs_of_owner (p := proc i) (b := (proc i).devRef cc0_scratch0) rfl)).trans ?_
  rw [SparseCore.bigSep_erase' (Finset.mem_erase.mpr ⟨hne cc0_scratch1 cc0_scratch0 (by decide),
      SparseCore.Cfg.mem_ownRefs_of_owner (p := proc i) (b := (proc i).devRef cc0_scratch1) rfl⟩),
    SparseCore.bigSep_erase' (Finset.mem_erase.mpr ⟨hne cc0_scratch2 cc0_scratch1 (by decide), Finset.mem_erase.mpr ⟨hne cc0_scratch2 cc0_scratch0 (by decide),
      SparseCore.Cfg.mem_ownRefs_of_owner (p := proc i) (b := (proc i).devRef cc0_scratch2) rfl⟩⟩)]

/-! ## The task -/

/-- What the task is handed, and hands back: shares of the two tables, and its blocks of the output as they are in `f`. -/
def hand (E₁ : Buf (Elt F) (rLoc d)) (E₂ : Buf (Elt F) (pLoc d)) (q : PosShare TreeShare) (f : Buf (Elt F) (oLoc d)) : sProp 𝕄 :=
  iprop((rLoc d ↦{q} E₁) ∗ (pLoc d ↦{q} E₂) ∗ bigSep Finset.univ fun k : Fin 4 => oLoc d ↦[blockSet i k]{fullShare} f)

variable {i d} in
/-- The copy of a whole array into a whole buffer and the wait for it continue at the buffer holding what the array holds. -/
theorem wp_fetch {s : Shape} {src : Memref sig .scVector .hbm s .f32} {hsrc : src.IsWhole} {dst : Memref sig .scVector .vmem s .f32} {hdst : dst.IsWhole}
    {sem : DmaSems sig S_} {α : Type} {Q : α → sProp 𝕄} {K : TileProg F i α} (hs : 0 < s.numel) {q : PosShare TreeShare} {fs : Buf (Elt F) (src.view.loc (thr i d))}
    {fd : Buf (Elt F) (dst.view.loc (thr i d))} {O : CellTallies nD τ sig (HIx 1)} {W : Waits sig (HIx 1)} :
    iprop((src.view.loc (thr i d) ↦{q} fs) ∗ (dst.view.loc (thr i d) ↦{fullShare} fd) ∗ semVal (thr i d, .dma sem.sem) 0 ∗ owes (thr i d) O W
        ∗ Transfers.MayWaits (thr i d) (default : HIx 1) O)
      ⊢ iprop((∀ f : Buf (Elt F) (dst.view.loc (thr i d)), ⌜dst.view.read (Elt F) f = src.view.read (Elt F) fs⌝ -∗
            ((src.view.loc (thr i d) ↦{q} fs) ∗ (dst.view.loc (thr i d) ↦{fullShare} f) ∗ semVal (thr i d, .dma sem.sem) 0
              ∗ owes (thr i d) O (insert (SemLoc.dma sem.sem, default) W)) -∗ tileWp i d K Q)
        -∗ tileWp i d (fetch src hsrc dst hdst sem K) Q) := by
  unfold fetch
  have hset : src.view.set = Finset.univ := Memref.IsWhole.set_eq_univ hsrc
  rw [show (src.view.loc (thr i d) ↦{q} fs : sProp 𝕄) = src.view.loc (thr i d) ↦[src.view.set]{q} fs by rw [hset]]
  iintro ⟨Hs, Hd, Hv, HO, Hmw⟩ Hk
  iapply (Transfers.wp_dmaLocal countersEmb Variants.none (thr i d) none (src := src) (via := ReadAs.same) (dst := dst) (sm := .dma sem.sem)
    (default : HIx 1) _ rfl (View.amount_pos _ _ hs) (Finset.subset_univ _)) $$ [$Hs $Hd $Hv]
  iintro Hf
  iapply (Transfers.wp_waitLocalO countersEmb Variants.none (thr i d) none (default : HIx 1) rfl) $$ [Hf HO Hmw]
  · isplitl [Hf]; · iexact Hf
    isplitl [HO]; · iexact HO
    iapply (Transfers.MayWaits.elim (SemLoc.dma sem.sem)) $$ Hmw
  iintro ⟨⟨Hd, Hs⟩, Hv, HO⟩
  iapply Hk $$ %_ %(View.read_write_univ _ _) [$Hs $Hd $Hv $HO]

set_option maxHeartbeats 1000000 in
/-- The task reads its shares of the tables and leaves its four blocks at the flat output of the tables. -/
theorem task (E₁ : Buf (Elt F) (rLoc d)) (E₂ : Buf (Elt F) (pLoc d)) (g : Buf (Elt F) (oLoc d)) (q : PosShare TreeShare)
    (hF : (K (F := F)).Facts) (O : CellTallies nD τ sig (HIx 1)) (W : Waits sig (HIx 1)) (hO : ∀ g, O g none = 0) :
    iprop(levAts (K (F := F)).L (K (F := F)).lev ∗ emp
        ∗ hand i d E₁ E₂ q g
        ∗ scopedBufs (thr i d) ∗ scopedSems0 (thr i d) ∗ owes (thr i d) O W)
      ⊢ tileWp i d (cc0_sc_kernel (F := F) i eW (Memref.isWhole_whole _) pW (Memref.isWhole_whole _) oW (Memref.isWhole_whole _)
            aW (Memref.isWhole_whole _) bW (Memref.isWhole_whole _) gW (Memref.isWhole_whole _) cc0_scratch3 cc0_scoped0 cc0_scoped1)
          fun _ => iprop(hand i d E₁ E₂ q (flat E₁ E₂)
            ∗ scopedBufs (thr i d) ∗ scopedSems0 (thr i d)
            ∗ ∃ W', ⌜∀ p ∈ W', p ∈ W ∨ p.2 = none⌝ ∗ owes (thr i d) O W') := by
  unfold hand
  rw [body_eq, (K (F := F)).scopedBufs_V hF d _ _, SparseCore.Cfg.scopedSems0_V (Val := Elt F) d _ _, ownSems0_tile, ownBufs_tile]
  iintro ⟨#Hlv, -, ⟨Hr, Hp, Ho⟩, ⟨⟨%fa, Ha⟩, ⟨%fb, Hb⟩, ⟨%fg, Hg⟩, Hbufs⟩, ⟨HsemA, HsemB, HsemC, Hsems⟩, HO⟩
  ihave #Hmw := (show levAts (K (F := F)).L (K (F := F)).lev ⊢ Transfers.MayWaits (thr i d) (default : HIx 1) O from
    (K (F := F)).mayWaits_none (thr := thr i d) hO) $$ Hlv
  ihave Hr' := (show (rLoc d ↦{q} E₁ : sProp 𝕄) ⊢ (eW).view.loc (thr i d) ↦{q} E₁ from .rfl) $$ Hr
  ihave Hp' := (show (pLoc d ↦{q} E₂ : sProp 𝕄) ⊢ (pW).view.loc (thr i d) ↦{q} E₂ from .rfl) $$ Hp
  iapply (wp_fetch (src := eW) (dst := aW) (by decide)) $$ [$Hr' $Ha $HsemA $HO]
  · iexact Hmw
  iintro %fa' %hfa ⟨Hr', Ha, HsemA, HO⟩
  iapply (wp_fetch (src := pW) (dst := bW) (by decide)) $$ [$Hp' $Hb $HsemB $HO]
  · iexact Hmw
  iintro %fb' %hfb ⟨Hp', Hb, HsemB, HO⟩
  iapply (wp_chunks aW fa' bW fb' gW _ 16 le_rfl fg fun j hj => absurd hj (by omega)) $$ [$Ha $Hb $Hg]
  iintro %fg' %hfg ⟨Ha, Hb, Hg⟩
  have hfr : (gW).view.read (Elt F) fg' = filled E₁ E₂ := by rw [hfg, hfa, hfb]; rfl
  ihave Ho' := (Entails.of_eq (blocks_own i d g).symm) $$ Ho
  iapply (wp_send (fun _ => g) fg' O _) $$ [Ho' Hg HsemC HO]
  · isplitl [Ho']; · iexact Ho'
    isplitl [Hg]; · iexact Hg
    isplitl [HsemC]; · iexact HsemC
    isplitl [HO]; · iexact HO
    iexact Hmw
  iintro %W' %hW' ⟨Ho, Hg, HsemC, HO⟩
  ihave Ho := (Entails.of_eq (blocks_landed (i := i) (d := d) (fun _ => g) fg' E₁ E₂ hfr)) $$ Ho
  ihave Ho' := (Entails.of_eq (blocks_own i d (flat E₁ E₂))) $$ Ho
  isplitl [Hr' Hp' Ho']
  · isplitl [Hr']; · iexact Hr'
    isplitl [Hp']; · iexact Hp'
    iexact Ho'
  isplitl [Ha Hb Hg Hbufs]
  · isplitl [Ha]; · iexists _; iexact Ha
    isplitl [Hb]; · iexists _; iexact Hb
    isplitl [Hg]; · iexists _; iexact Hg
    iexact Hbufs
  isplitl [HsemA HsemB HsemC Hsems]
  · isplitl [HsemA]; · iexact HsemA
    isplitl [HsemB]; · iexact HsemB
    isplitl [HsemC]; · iexact HsemC
    iexact Hsems
  iexists W'; isplitr
  swap; · iexact HO
  ipureintro; intro p hp
  rcases hW' p hp with hp | hp
  · simp only [Finset.mem_insert] at hp
    rcases hp with hp | hp | hp
    · exact .inr (hp ▸ rfl)
    · exact .inr (hp ▸ rfl)
    · exact .inl hp
  · exact .inr hp

end Cert.KernelIdeal.Tile
end
end
-- ==== Proof.KernelIdeal.Deal.lean ====
/-
  How the arrays are dealt to the tiles: each SparseCore takes a share of the tables and each of its tiles a share of that,
  and every tile takes its own four blocks of the flat output, which are disjoint and make up the whole of it.
-/
module

public import proofs.«01_k».proof.Proof.KernelIdeal.Task

@[expose] public section

noncomputable section

namespace Cert.KernelIdeal.Tile

open Cert.KernelIdeal Cert.KernelIdeal.Gen
open Idealize.ShloMosaic
open Idealize.ShloMosaic.SparseCore.Cfg (HIx)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)

variable {F : FTy → Type} [FloatOps F]

local notation "𝕄" => MT nD τ sig (HIx 1) (Elt F) ℕ UU ℕ

local notation "oW" => (Memref.whole Cert.KernelIdeal.main_v0_scv : Memref Cert.KernelIdeal.sig Kind.scVector Space.hbm Cert.KernelIdeal.S16384x256 EltTy.f32)

/-- The grid position of tile `s` of SparseCore `c`. -/
def tile (c : Fin (grid0.bound 0)) (s : Fin (grid0.bound 1)) : grid0.Coords :=
  fun | 0 => c | 1 => s | ⟨_ + 2, h⟩ => absurd h (Nat.not_lt.2 (Nat.le_add_left _ _))

/-! ## The blocks -/

/-- An element of the output lies in a tile's block `k` when its row does. -/
theorem mem_block (i : grid0.Coords) (k : Fin 4) (j : S16384x256.Idx) :
    j ∈ blockSet i k ↔ (j 0).val / 128 = 8 * (i 1).val + 4 * (i 0).val + k.val := by
  constructor
  · intro h
    obtain ⟨x, -, rfl⟩ := Finset.mem_map.mp h
    have hx : (x 0).val < 128 := (x 0).isLt
    have h0 := (block_emb i k x).1
    show (blockEmb i k x 0).val / 128 = _
    omega
  · intro h
    let x : S128x256.Idx := ix2 (⟨(j 0).val % 128, Nat.mod_lt _ (by decide)⟩ : Fin 128) (j 1 : Fin 256)
    refine Finset.mem_map.mpr ⟨x, Finset.mem_univ x, ?_⟩
    show blockEmb i k x = j
    obtain ⟨h0, h1⟩ := block_emb i k x
    refine Shape.idx_ext₂ ?_ h1
    have hx : (x 0).val = (j 0).val % 128 := rfl
    rw [h0, hx]
    omega

/-- The elements of block `t.2` of tile `t.1.2` of SparseCore `t.1.1`. -/
def dealt (t : (Fin 2 × Fin 16) × Fin 4) : Finset S16384x256.Idx := blockSet (tile t.1.1 t.1.2) t.2

theorem mem_dealt (t : (Fin 2 × Fin 16) × Fin 4) (j : S16384x256.Idx) :
    j ∈ dealt t ↔ (j 0).val / 128 = 8 * t.1.2.val + 4 * t.1.1.val + t.2.val := mem_block (tile t.1.1 t.1.2) t.2 j

/-- Different blocks share no element. -/
theorem dealt_disjoint (t t' : (Fin 2 × Fin 16) × Fin 4) (h : t ≠ t') : Disjoint (dealt t) (dealt t') := by
  rw [Finset.disjoint_left]
  intro j hj hj'
  rw [mem_dealt] at hj hj'
  obtain ⟨⟨c, s⟩, k⟩ := t
  obtain ⟨⟨c', s'⟩, k'⟩ := t'
  have hc := c.isLt; have hc' := c'.isLt; have hk := k.isLt; have hk' := k'.isLt
  simp only at hj hj'
  refine h (Prod.ext (Prod.ext (Fin.ext ?_) (Fin.ext ?_)) (Fin.ext ?_)) <;> simp only <;> omega

/-- Every element lies in a block. -/
theorem dealt_cover : (Finset.univ : Finset ((Fin 2 × Fin 16) × Fin 4)).biUnion dealt = Finset.univ := by
  refine Finset.eq_univ_iff_forall.mpr fun j => ?_
  have hj : (j 0).val < 16384 := (j 0).isLt
  refine Finset.mem_biUnion.mpr ⟨((⟨(j 0).val / 512 % 2, by omega⟩, ⟨(j 0).val / 1024, by omega⟩), ⟨(j 0).val / 128 % 4, by omega⟩), Finset.mem_univ _, ?_⟩
  rw [mem_dealt]
  simp only
  omega

omit [FloatOps F] in
/-- The flat output is its blocks. -/
theorem output_blocks (d : Dev nD) (f : Buf (Elt F) (oLoc d)) :
    (oLoc d ↦{fullShare} f : sProp 𝕄)
      = bigSep Finset.univ fun c : Fin 2 => bigSep Finset.univ fun s : Fin 16 => bigSep Finset.univ fun k : Fin 4 =>
          oLoc d ↦[blockSet (tile c s) k]{fullShare} f := by
  have h := pointsTo_biUnion (ℓ := oLoc d) (q := fullShare) (f := f) (Ix := HIx 1) (Name := ℕ) (U := UU) (Lvl := ℕ) Finset.univ dealt
    fun t _ t' _ => dealt_disjoint t t'
  rw [dealt_cover, bigSep_univ_prod, bigSep_univ_prod] at h
  exact h

/-! ## The hands -/

variable (m : (ℓ : Loc nD τ sig) → Buf (Elt F) ℓ) (d : Dev nD)

/-- What a tile is handed, and hands back, when its blocks of the output are those of `f`. -/
abbrev tileHand (f : Buf (Elt F) (oLoc d)) (c : Fin 2) (s : Fin 16) : sProp 𝕄 :=
  hand (tile c s) d (m (rLoc d)) (m (pLoc d)) (leaf 4 (leaf 1 fullShare c) s) f

/-- What a SparseCore is handed, and hands back. -/
abbrev coreHand (f : Buf (Elt F) (oLoc d)) (c : Fin 2) : sProp 𝕄 :=
  iprop((rLoc d ↦{leaf 1 fullShare c} m (rLoc d)) ∗ (pLoc d ↦{leaf 1 fullShare c} m (pLoc d))
    ∗ bigSep Finset.univ fun s : Fin 16 => bigSep Finset.univ fun k : Fin 4 => oLoc d ↦[blockSet (tile c s) k]{fullShare} f)

instance hand_storable (f : Buf (Elt F) (oLoc d)) (c : Fin 2) (s : Fin 16) : BI.Storable (upEmb : UEmb _ 𝕄) (tileHand m d f c s) := by
  unfold tileHand hand; infer_instance

omit [FloatOps F] in
/-- A SparseCore's hand is its tiles' hands. -/
theorem coreHand_tiles (f : Buf (Elt F) (oLoc d)) (c : Fin 2) : coreHand m d f c = bigSep Finset.univ (tileHand m d f c) := by
  unfold tileHand hand
  rw [bigSep_sep', bigSep_sep']
  show iprop((rLoc d ↦[Finset.univ]{leaf 1 fullShare c} m (rLoc d)) ∗ (pLoc d ↦[Finset.univ]{leaf 1 fullShare c} m (pLoc d)) ∗ _) = _
  rw [pointsTo_leaves Finset.univ (m (rLoc d)) 4, pointsTo_leaves Finset.univ (m (pLoc d)) 4]
  rfl

omit [FloatOps F] in
/-- The tables and the flat output whole are the two SparseCores' hands. -/
theorem arrays_hands (f : Buf (Elt F) (oLoc d)) :
    (iprop((rLoc d ↦{fullShare} m (rLoc d)) ∗ (pLoc d ↦{fullShare} m (pLoc d)) ∗ oLoc d ↦{fullShare} f) : sProp 𝕄)
      = bigSep Finset.univ (coreHand m d f) := by
  rw [bigSep_sep', bigSep_sep', output_blocks]
  show iprop((rLoc d ↦[Finset.univ]{fullShare} m (rLoc d)) ∗ (pLoc d ↦[Finset.univ]{fullShare} m (pLoc d)) ∗ _) = _
  rw [pointsTo_leaves Finset.univ (m (rLoc d)) 1, pointsTo_leaves Finset.univ (m (pLoc d)) 1]
  rfl

end Cert.KernelIdeal.Tile
end
end
-- ==== Proof.KernelIdeal.Launch.lean ====
/-
  The launch: the call deals the arrays to the tiles and takes them back with the output at the sums, and the reshape puts the
  output in the result. What the whole program leaves in memory follows.
-/
module

public import proofs.«01_k».proof.Proof.KernelIdeal.Deal
public import Idealize.ShloMosaic.Lib.StableHlo.Run

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

local notation "eW" => (Memref.whole Cert.KernelIdeal.main_arg1_scv : Memref Cert.KernelIdeal.sig Kind.scVector Space.hbm Cert.KernelIdeal.S8x256 EltTy.f32)
local notation "pW" => (Memref.whole Cert.KernelIdeal.main_arg2_scv : Memref Cert.KernelIdeal.sig Kind.scVector Space.hbm Cert.KernelIdeal.S4x256 EltTy.f32)
local notation "oW" => (Memref.whole Cert.KernelIdeal.main_v0_scv : Memref Cert.KernelIdeal.sig Kind.scVector Space.hbm Cert.KernelIdeal.S16384x256 EltTy.f32)
local notation "aW" => (Memref.whole Cert.KernelIdeal.cc0_scratch0 : Memref Cert.KernelIdeal.sig Kind.scVector Space.vmem Cert.KernelIdeal.S8x256 EltTy.f32)
local notation "bW" => (Memref.whole Cert.KernelIdeal.cc0_scratch1 : Memref Cert.KernelIdeal.sig Kind.scVector Space.vmem Cert.KernelIdeal.S4x256 EltTy.f32)
local notation "gW" => (Memref.whole Cert.KernelIdeal.cc0_scratch2 : Memref Cert.KernelIdeal.sig Kind.scVector Space.vmem Cert.KernelIdeal.S128x256 EltTy.f32)

abbrev D : Defs nD τ sig (Elt F) (ΛP (F := F)) := Pipeline.defs pcfgs defs₀
abbrev 𝒱 : Variants := Variants.none.lift
abbrev v₀ : 𝒱.V := Sum.inl none
abbrev EH : Emb UH (MT nD τ sig (HIx 1) (Elt F) ℕ UU ℕ) := embL

variable (m : (ℓ : Loc nD τ sig) → Buf (Elt F) ℓ) (ρ : Dev nD → PrngReg)

/-- The flat output of the tables in the launch memory. -/
abbrev outVal (d : Dev nD) : Buf (Elt F) (oLoc d) := flat (m (rLoc d)) (m (pLoc d))

/-- What the call's handshakes carry: each SparseCore's hand and each tile's, with the output as launched on the way in and at
    the sums on the way out. -/
def P : (K (F := F)).Pay (nD := nD) (Val := Elt F) (Name := ℕ) (U := UU) where
  st := fun q d c => match q with | 0 => coreHand m d (m (oLoc d)) c
  dn := fun q d c => match q with | 0 => coreHand m d (outVal m d) c
  go := fun q d c s => match q with | 0 => tileHand m d (m (oLoc d)) c s
  td := fun q d c s => match q with | 0 => tileHand m d (outVal m d) c s
  x := fun _ _ => iprop(emp)

instance P_storable : (P (F := F) m).IsStorable where
  st q d c := match q with | 0 => (inferInstance : BI.Storable (upEmb : UEmb _ 𝕄) (coreHand m d (m (oLoc d)) c))
  dn q d c := match q with | 0 => (inferInstance : BI.Storable (upEmb : UEmb _ 𝕄) (coreHand m d (outVal m d) c))
  go q d c s := match q with | 0 => (inferInstance : BI.Storable (upEmb : UEmb _ 𝕄) (tileHand m d (m (oLoc d)) c s))
  td q d c s := match q with | 0 => (inferInstance : BI.Storable (upEmb : UEmb _ 𝕄) (tileHand m d (outVal m d) c s))

/-! ## The tiles' obligation -/

/-- What a tile runs is the kernel at its grid position. -/
theorem defs₀_tile (c : Fin τ.nSC) (s : Fin τ.nSub) :
    defs₀ (F := F) (.scVector c s) 0 ()
      = SparseCore.onTile hcore0 hsub0 (fun c s => cc0_sc_kernel (tile c s) eW (Memref.isWhole_whole _) pW (Memref.isWhole_whole _)
          oW (Memref.isWhole_whole _) aW (Memref.isWhole_whole _) bW (Memref.isWhole_whole _) gW (Memref.isWhole_whole _)
          cc0_scratch3 cc0_scoped0 cc0_scoped1) ⟨⟩ c s := rfl

omit [FloatOps F] in
/-- Waits the task recorded at no call are among those the obligation allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of a tile, from its hand to its hand. -/
theorem tile_task (d : Dev nD) (c : Fin 2) (s : Fin 16) (O : CellTallies nD τ sig (HIx 1)) (W : Waits sig (HIx 1)) (hO : ∀ g, O g none = 0) :
    iprop(levAts (K (F := F)).L (K (F := F)).lev ∗ emp ∗ tileHand m d (m (oLoc d)) c s
        ∗ scopedBufs (thr (tile c s) d) ∗ scopedSems0 (thr (tile c s) d) ∗ owes (thr (tile c s) d) O W)
      ⊢ tileWp (tile c s) d (cc0_sc_kernel (F := F) (tile c s) eW (Memref.isWhole_whole _) pW (Memref.isWhole_whole _) oW (Memref.isWhole_whole _)
            aW (Memref.isWhole_whole _) bW (Memref.isWhole_whole _) gW (Memref.isWhole_whole _) cc0_scratch3 cc0_scoped0 cc0_scoped1)
          fun _ => iprop(tileHand m d (outVal m d) c s ∗ scopedBufs (thr (tile c s) d) ∗ scopedSems0 (thr (tile c s) d)
            ∗ ∃ W', ⌜∀ p ∈ W', p ∈ W ∨ p.2 = none⌝ ∗ owes (thr (tile c s) d) O W') := by
  have h := task (F := F) (tile c s) d (m (rLoc d)) (m (pLoc d)) (m (oLoc d)) (leaf 4 (leaf 1 fullShare c) s) launch_facts O W hO
  with_reducible exact h

set_option maxRecDepth 16384 in
/-- Every tile, handed its hand, hands it back with the sums in its blocks. -/
theorem tileObl : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) Variants.none _ Set.univ none _ _)
  rw [defs₀_tile]; simp only [SparseCore.onTile, hcs, and_self, ↓reduceDIte]
  have h := tile_task (F := F) m d ⟨_, hcs.1⟩ ⟨_, hcs.2⟩ O W hO
  refine BI.Entails.trans h ?_
  unfold tileWp
  apply wp_mono
  intro _
  exact waits_weaken (A := (P m).td 0 d c s)

/-- A SparseCore's hand goes to its tiles, and theirs make it up again. -/
theorem vecSplit : (K (F := F)).VecSplit' (P m) 0 := by
  intro d c
  show coreHand m d (m (oLoc d)) c ⊢ |={Set.univ}=> iprop((bigSep Finset.univ (tileHand m d (m (oLoc d)) c))
    ∗ ((bigSep Finset.univ (tileHand m d (outVal m d) c)) -∗ coreHand m d (outVal m d) c))
  rw [coreHand_tiles, coreHand_tiles]
  iintro H; imodintro
  isplitl [H]; · iexact H
  iintro H; iexact H

/-! ## The launch's ghost state -/

def u₀ : UU := (initOf (K (F := F)).hsCells (K (F := F)).hsToks, 1)

/-- It is the handshakes' rounds, and nothing besides. -/
theorem launch_ghost : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Dev nD => (iprop(emp) : sProp 𝕄)) = iprop(emp) from bigSep_emp_const _,
    show (bigSep Finset.univ fun _ : Thread nD τ => (iprop(emp) : sProp 𝕄)) = iprop(emp) from bigSep_emp_const _]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The program on the TensorCore -/

abbrev xLoc (d : Dev nD) : Loc nD τ sig := (SparseCore.T d).loc main_arg0
abbrev wLoc (d : Dev nD) : Loc nD τ sig := (SparseCore.T d).loc main_v1

/-- The result: the flat output in the result's shape. -/
def result (E₁ : S8x256.Idx → F .f32) (E₂ : S4x256.Idx → F .f32) : S4x4096x256.Idx → F .f32 :=
  shapeCast S4x4096x256 (flat E₁ E₂) shapeCasts_S16384x256_S4x4096x256

abbrev resultVal (d : Dev nD) : Buf (Elt F) (wLoc d) := result (m (rLoc d)) (m (pLoc d))

omit [FloatOps F] in
/-- The arrays the program's values live in. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (rLoc d ↦{fullShare} W main_arg1) ∗ (pLoc d ↦{fullShare} W main_arg2)
      ∗ (oLoc d ↦{fullShare} W main_v0) ∗ wLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

abbrev o' : DevRef τ sig := Proc.devRef .tc (main_v0 : Ref sig .tc)
abbrev w' : DevRef τ sig := Proc.devRef .tc (main_v1 : Ref sig .tc)
abbrev opReshape : HloOp τ sig (Elt F) := StableHlo.reshape main_v0 main_v1 rfl shapeCasts_S16384x256_S4x4096x256

omit [FloatOps F] in
theorem held_ow (d : Dev nD) (W : Valuation τ sig (Elt F)) :
    (held (T d) {o', w'} W : sProp 𝕄) = iprop((oLoc d ↦{fullShare} W o') ∗ wLoc d ↦{fullShare} W w') := by
  unfold held
  rw [SparseCore.bigSep_insert' (by decide), bigSep_singleton]

/-- Memory after the call: the output at `f`, everything else as launched. -/
def afterCall (d : Dev nD) (f : Buf (Elt F) (oLoc d)) : Valuation τ sig (Elt F) := Function.update (fun b => m (d, b)) o' f

omit [FloatOps F] in
theorem afterCall_o (d : Dev nD) (f : Buf (Elt F) (oLoc d)) : afterCall m d f o' = f := Function.update_self _ _ _
omit [FloatOps F] in
theorem afterCall_w (d : Dev nD) (f : Buf (Elt F) (oLoc d)) : afterCall m d f w' = m (wLoc d) := Function.update_of_ne (show w' ≠ o' by decide) _ _

/-- The reshape of the output at the sums is the result. -/
theorem reshape_outVal (d : Dev nD) : (opReshape (F := F)).result (afterCall m d (outVal m d)) w' = resultVal m d := by
  refine (StableHlo.reshape_result (Val := Elt F) main_v0 main_v1 rfl shapeCasts_S16384x256_S4x4096x256 _ _ _).trans ?_
  show shapeCast S4x4096x256 (afterCall m d (outVal m d) o') shapeCasts_S16384x256_S4x4096x256 = _
  rw [afterCall_o]; rfl

/-- What the program leaves: the arguments as launched and the result. -/
abbrev FIN (d : Dev nD) : sProp 𝕄 :=
  iprop((xLoc d ↦{fullShare} m (xLoc d)) ∗ (rLoc d ↦{fullShare} m (rLoc d)) ∗ (pLoc d ↦{fullShare} m (pLoc d)) ∗ wLoc d ↦{fullShare} resultVal m d)

/-- The program calls the kernel on the two tables and reshapes what it gets. -/
theorem main_wp (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hr, Hp, Ho, Hw⟩, Hts, -⟩, -⟩
  iapply ((K (F := F)).wp_run (D (F := F)) 𝒱 (EH := EH) (P := P m) κ d 0) $$ [Hst Hr Hp Ho Hb Hx Hw Hts]
  isplitr; · iexact Hctx
  isplitl [Hst]; · iexact Hst
  isplitl [Hr Hp Ho]
  · iapply (show iprop((rLoc d ↦{fullShare} m (rLoc d)) ∗ (pLoc d ↦{fullShare} m (pLoc d)) ∗ oLoc d ↦{fullShare} m (oLoc d))
      ⊢ bigSep Finset.univ (coreHand m d (m (oLoc d))) from Entails.of_eq (arrays_hands m d (m (oLoc d))))
    isplitl [Hr]; · iexact Hr
    isplitl [Hp]; · iexact Hp
    iexact Ho
  iintro ⟨Hst, Hdn⟩
  ihave Hdn' := (show (bigSep Finset.univ fun c : Fin ((K (F := F)).nCore 0) => (P m).dn 0 d c)
    ⊢ iprop((rLoc d ↦{fullShare} m (rLoc d)) ∗ (pLoc d ↦{fullShare} m (pLoc d)) ∗ oLoc d ↦{fullShare} outVal m d) from
    Entails.of_eq (arrays_hands m d (outVal m d)).symm) $$ Hdn
  icases Hdn' with ⟨Hr, Hp, Ho⟩
  iapply (wp_hlo_within 𝒱 (SparseCore.T d) none Set.univ (op := opReshape) (S := {o', w'}) (Finset.Subset.refl _) (V := afterCall m d (outVal m d))) $$ [Hb Ho Hw]
  · isplitl [Hb]; · iexact Hb
    rw [held_ow, afterCall_o, afterCall_w]
    isplitl [Ho]; · iexact Ho
    iexact Hw
  iintro ⟨Hb, Hheld⟩
  ihave Hh := (Entails.of_eq (held_ow (F := F) d _)) $$ Hheld
  icases Hh with ⟨-, Hw⟩
  rw [reshape_outVal, wp_ret]; imodintro; imodintro
  isplitl [Hst]; · iexact Hst
  isplitr [Hb Hts]
  · isplitl [Hx]; · iexact Hx
    isplitl [Hr]; · iexact Hr
    isplitl [Hp]; · iexact Hp
    iexact Hw
  isplitl [Hb] <;> iassumption

/-! ## The run -/

/-- Memory at the end: the result, and the arguments as launched. -/
def Final (d : Dev nD) (μ : (ℓ : Loc nD τ sig) → Buf (Elt F) ℓ) : Prop :=
  μ (wLoc d) = resultVal m d ∧ μ (xLoc d) = m (xLoc d) ∧ μ (rLoc d) = m (rLoc d) ∧ μ (pLoc d) = m (pLoc d)

omit [FloatOps F] in
/-- An array owned whole is in memory as it is owned. -/
theorem owned_in_memory (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hf, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  · iexact HSI

set_option maxRecDepth 16384 in
theorem final_of_owned (d : Dev nD) (s' : Phys nD τ sig (Elt F)) : iprop(FIN m d ∗ SI s') ⊢ (⌜Final m d s'.mem.mem⌝ : sProp 𝕄) := by
  iintro ⟨⟨Hx, Hr, Hp, Hw⟩, HSI⟩
  ihave H := (owned_in_memory (xLoc d) _ s') $$ [Hx HSI]
  · isplitl [Hx] <;> iassumption
  icases H with ⟨%hx, HSI⟩
  ihave H := (owned_in_memory (rLoc d) _ s') $$ [Hr HSI]
  · isplitl [Hr] <;> iassumption
  icases H with ⟨%hr, HSI⟩
  ihave H := (owned_in_memory (pLoc d) _ s') $$ [Hp HSI]
  · isplitl [Hp] <;> iassumption
  icases H with ⟨%hp, HSI⟩
  ihave H := (owned_in_memory (wLoc d) _ s') $$ [Hw HSI]
  · isplitl [Hw] <;> iassumption
  icases H with ⟨%hw, -⟩
  ipureintro; exact ⟨hw, hx, hr, hp⟩

/-- Every run of the program ends, with the result in memory, the arguments as launched and every semaphore at zero. -/
theorem run [∀ e, Nonempty (Elt F e)] :
    θ_run (Cert.KernelIdeal.defs (F := F)) (Cert.KernelIdeal.threads (F := F)) ⟨m, fun _ => 0, ρ⟩ fun r => (∀ d : Dev nD, Final m d r.2.mem) ∧ r.2.sem = fun _ => 0 :=
  SparseCore.Cfg.θ_run_sc_quiescent (K := K (F := F)) (D := D (F := F)) (𝒱 := 𝒱) (EH := EH) (P := P m) (A := ∅) launch_facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (launch_ghost m)) (main_wp m ρ) (fun d s' => Final m d s'.mem.mem)
    (final_of_owned m) _ (fun _ h hz => ⟨h, hz⟩)

end Cert.KernelIdeal.Tile
end
end
-- ==== Proof.Reference.Take.lean ====
/-
  How the reference reads a table: eight row numbers repeated down the sequence, negative numbers wrapped, the rows gathered, and
  the rows whose number lies outside the table replaced. Where all eight numbers lie inside the table, wrapping and
  replacing change nothing and entry `(i, e)` of the result is the table's entry `(v (i % 8), e)`.
-/
module

public import proofs.«01_k».proof.Proof.Gen.ReferenceIdeal
public import Idealize.ShloMosaic.Lib.ReduceAll
public import Idealize.ShloMosaic.Lib.Routing.Ops
public import Idealize.ShloMosaic.Lib.ValueLayout

@[expose] public section

noncomputable section

namespace Cert.ReferenceIdeal.Table

open Cert.ReferenceIdeal Cert.ReferenceIdeal.Gen
open Idealize.ShloMosaic
open Idealize.ShloMosaic.ValueIdx

variable {F : FTy → Type} [FloatOps F]

/-- Eight words repeated to the sequence's length. -/
def spread (v : IVec S8 32) : IVec S4096 32 :=
  shapeCast _ (broadcastInDim S512x8 ![0, 1] bcast_S1x8_S512x8_0_1 (shapeCast _ v shapeCasts_S8_S1x8)) shapeCasts_S512x8_S4096

/-- Position `i` holds the word `i % 8`. -/
theorem spread_apply (v : IVec S8 32) (i : Fin 4096) :
    spread v (ix1 i) = v (ix1 (⟨i.val % 8, Nat.mod_lt _ (by decide)⟩ : Fin 8)) := by
  have hi : i.val < 4096 := i.isLt
  refine (Routing.cast21 _ shapeCasts_S512x8_S4096 (⟨i.val / 8, by omega⟩ : Fin 512) (⟨i.val % 8, by omega⟩ : Fin 8) i
    (show i.val = i.val / 8 * 8 + i.val % 8 by omega)).trans ?_
  refine (broadcastInDim_apply _ _ _ _ (ix2 (0 : Fin 1) (⟨i.val % 8, by omega⟩ : Fin 8)) fun a => ?_).trans ?_
  · fin_cases a <;> rfl
  · exact shapeCast_a_1a_apply v _ _ _

/-- The row numbers as a column, `n` added to the negative ones. -/
def column (n : BitVec 32) (v : IVec S8 32) : IVec S4096x1 32 :=
  broadcastInDim S4096x1 ![0] bcast_S4096_S4096x1_0
    (select (cmpi .slt (spread v) (broadcastInDim S4096 ![] bcast_S_S4096 (constantI S_ 32 0#32)))
      (addi (spread v) (broadcastInDim S4096 ![] bcast_S_S4096 (constantI S_ 32 n))) (spread v))

/-- Where none of the eight words is negative, the column holds them as they are. -/
theorem column_apply (n : BitVec 32) (v : IVec S8 32) (hv : ∀ k, (v k).toNat < 2 ^ 31) (i : Fin 4096) (z : Fin 1) :
    column n v (ix2 i z) = v (ix1 (⟨i.val % 8, Nat.mod_lt _ (by decide)⟩ : Fin 8)) := by
  refine (broadcastInDim_apply _ _ _ _ (ix1 i) fun a => ?_).trans ?_
  · fin_cases a; rfl
  · rw [select_apply, spread_apply]
    refine (congrArg (fun b => Scalar.select b _ _) (eq_zero_of_ne_one fun h => ?_)).trans (select_zero _ _)
    have h' : IntOp.cmpi .slt (spread v (ix1 i)) 0#32 = 1#1 := h
    rw [spread_apply, StableHlo.Predicate.slt_iff_toNat (hv _) (by decide)] at h'
    exact Nat.not_lt_zero _ h'

/-- Which row numbers lie between 0 and `hi`. -/
def inside (hi n : BitVec 32) (v : IVec S8 32) : IVec S4096 1 :=
  Host.reduce IntOp.andi
    (andi (cmpi .sge (column n v) (broadcastInDim S4096x1 ![] bcast_S_S4096x1 (constantI S_ 32 0#32)))
      (cmpi .sle (column n v)
        (broadcastInDim S4096x1 ![0, 1] bcast_S1x1_S4096x1_0_1 (broadcastInDim S1x1 ![1] bcast_S1_S1x1_1 (constantI S1 32 hi)))))
    (constantI S_ 1 1#1) reducesTo_S4096x1_S4096_d1 h_S_

/-- Where all eight words do, every position is marked. -/
theorem inside_apply (hi n : BitVec 32) (hhi : hi.toNat < 2 ^ 31) (v : IVec S8 32) (hv : ∀ k, (v k).toNat ≤ hi.toNat) (j : S4096.Idx) :
    inside hi n v j = 1#1 := by
  refine Host.reduce_andi_one _ _ _ _ _ rfl fun i => ?_
  have hv' : ∀ k, (v k).toNat < 2 ^ 31 := fun k => lt_of_le_of_lt (hv k) hhi
  refine IntOp.andi_eq_one.2 ⟨?_, ?_⟩
  · show IntOp.cmpi .sge (column n v i) 0#32 = 1#1
    rw [eq_ix2 i]
    refine (congrArg (fun x => IntOp.cmpi .sge x 0#32) (column_apply n v hv' _ _)).trans ?_
    exact (StableHlo.Predicate.sge_iff_toNat (hv' _) (by decide)).2 (Nat.zero_le _)
  · show IntOp.cmpi .sle (column n v i) hi = 1#1
    rw [eq_ix2 i]
    refine (congrArg (fun x => IntOp.cmpi .sle x hi) (column_apply n v hv' _ _)).trans ?_
    exact (StableHlo.Predicate.sle_iff_toNat (hv' _) hhi).2 (hv _)

/-- The rows of a table `E` at the row numbers; a row whose number lies outside the table is replaced by a constant. -/
def taken {N : ℕ} (d : GatherDims (Routing.shape2 N 256) S4096x1 S4096x256) (hi n : BitVec 32) (E : (Routing.shape2 N 256).Idx → F .f32)
    (v : IVec S8 32) : FVec F S4096x256 .f32 :=
  select (broadcastInDim S4096x256 ![0] bcast_S4096_S4096x256_0 (inside hi n v)) (Host.gather d E (column n v))
    (broadcastInDim S4096x256 ![] bcast_S_S4096x256 (constant S_ .f32 0x7FC00000#32))

/-- Where the eight words are the row numbers `p 0 … p 7`, all below `N = hi + 1`, the taken rows are the table's. -/
theorem taken_apply {N : ℕ} (d : GatherDims (Routing.shape2 N 256) S4096x1 S4096x256) (hoff : d.offsetDims = [1])
    (hcoll : d.collapsedSliceDims = [0]) (hob : d.operandBatchingDims = []) (hsim : d.startIndexMap = [0]) (hivd : d.indexVectorDim = 1)
    (hi n : BitVec 32) (hN : hi.toNat + 1 = N) (hhi : N < 2 ^ 31) (E : (Routing.shape2 N 256).Idx → F .f32) (v : IVec S8 32)
    (p : Fin 8 → Fin N) (hp : ∀ k : Fin 8, v (ix1 k) = BitVec.ofNat 32 (p k).val) (i : Fin 4096) (e : Fin 256) :
    taken d hi n E v (ix2 i e) = E (ix2 (p ⟨i.val % 8, Nat.mod_lt _ (by decide)⟩) e) := by
  have hv : ∀ k, (v k).toNat ≤ hi.toNat := fun k => by
    obtain ⟨a, rfl⟩ : ∃ a : Fin 8, k = ix1 a := ⟨k 0, eq_ix1 k⟩
    have ha := (p a).isLt
    rw [hp a, BitVec.toNat_ofNat]
    exact (Nat.mod_le _ _).trans (by omega)
  have hv' : ∀ k, (v k).toNat < 2 ^ 31 := fun k => lt_of_le_of_lt (hv k) (by omega)
  unfold taken
  rw [select_apply]
  have hm : broadcastInDim S4096x256 ![0] bcast_S4096_S4096x256_0 (inside hi n v) (ix2 i e) = 1#1 := inside_apply hi n (by omega) v hv _
  rw [hm, select_one]
  exact Routing.gather_row (n := 4096) d hoff hcoll hob hsim hivd E (column n v) i e _ ((column_apply n v hv' i 0).trans (hp _)) hhi

end Cert.ReferenceIdeal.Table

end
-- ==== Proof.Reference.Value.lean ====
/-
  The reference's result: at every batch, position `s` and column `e` it is the sum of the first table's entry `(s % 8, e)` and
  the second table's entry `(p, e)`, `p` being the second table's row for `s % 8`: 0, 1, 1, 1, 2, 2, 2 or 3.
-/
module

public import proofs.«01_k».proof.Proof.Reference.Take
public import proofs.«01_k».proof.Proof.Gen.ReferenceIdeal.Run

@[expose] public section

noncomputable section

namespace Cert.ReferenceIdeal.Table

open Cert.ReferenceIdeal Cert.ReferenceIdeal.Gen
open Idealize.ShloMosaic
open Idealize.ShloMosaic.TcCoe
open Idealize.ShloMosaic.ValueIdx
open Idealize.SL.Sem

variable {F : FTy → Type} [FloatOps F]

/-- The second table's rows, in order. -/
def second : Fin 8 → Fin 4 := ![0, 1, 1, 1, 2, 2, 2, 3]

/-- The sum of the two tables' rows, as the reference computes it from the tables. -/
def out (E₁ : S8x256.Idx → F .f32) (E₂ : S4x256.Idx → F .f32) : FVec F S4x4096x256 .f32 :=
  addf
    (broadcastInDim S4x4096x256 ![1, 2] bcast_S4096x256_S4x4096x256_1_2
      (taken (N := 8) gather_S8x256_S4096x1_S4096x256_1_0_n_n_0_1_1256 7#32 8#32 E₁ (iotaInDim S8 32 0)))
    (broadcastInDim S4x4096x256 ![1, 2] bcast_S4096x256_S4x4096x256_1_2
      (taken (N := 4) gather_S4x256_S4096x1_S4096x256_1_0_n_n_0_1_1256 3#32 4#32 E₂ (fun i => lit0 (S8.rowMajor i))))

/-- What every run of the reference leaves in its result is that sum. -/
theorem res_eq (m : (ℓ : Loc nD τ sig) → Buf (Elt F) ℓ) (c : Dev nD) :
    Value.res_out0 m c = out (m ((c.tc : Thread nD τ).loc main_arg1)) (m ((c.tc : Thread nD τ).loc main_arg2)) := rfl

/-- The constant's eight words are the second table's rows. -/
theorem lit_apply (k : Fin 8) : lit0 (S8.rowMajor (ix1 k)) = BitVec.ofNat 32 (second k).val := by
  have h : S8.rowMajor (ix1 k) = k := Fin.ext (Shape.rowMajor_val_one _)
  rw [h]
  fin_cases k <;> rfl

/-- A broadcast over the batches reads the same at every batch. -/
theorem batch_apply (x : FVec F S4096x256 .f32) (b : Fin 4) (s : Fin 4096) (e : Fin 256) :
    broadcastInDim S4x4096x256 ![1, 2] bcast_S4096x256_S4x4096x256_1_2 x (ix3 b s e) = x (ix2 s e) :=
  broadcastInDim_apply _ _ _ _ _ fun a => by fin_cases a <;> rfl

/-- The reference's result, entry by entry. -/
theorem out_apply (E₁ : S8x256.Idx → F .f32) (E₂ : S4x256.Idx → F .f32) (b : Fin 4) (s : Fin 4096) (e : Fin 256) :
    out E₁ E₂ (ix3 b s e)
      = FloatOps.addf (E₁ (ix2 (⟨s.val % 8, Nat.mod_lt _ (by decide)⟩ : Fin 8) e))
          (E₂ (ix2 (second ⟨s.val % 8, Nat.mod_lt _ (by decide)⟩) e)) := by
  refine congrArg₂ FloatOps.addf ((batch_apply _ b s e).trans ?_) ((batch_apply _ b s e).trans ?_)
  · exact taken_apply (N := 8) _ rfl rfl rfl rfl rfl _ _ rfl (by decide) E₁ _ id (fun _ => rfl) s e
  · exact taken_apply (N := 4) _ rfl rfl rfl rfl rfl _ _ rfl (by decide) E₂ _ second lit_apply s e

end Cert.ReferenceIdeal.Table

end
-- ==== Proof.Equal.lean ====
/-
  The kernel and the reference compute the same array from the same tables. Row `4096 b + s` of the kernel's flat output is
  position `s` of batch `b`, and 4096 and 128 are multiples of 8, so both sides read the tables' rows for `s % 8`.
-/
module

public import proofs.«01_k».proof.Proof.KernelIdeal.Launch
public import proofs.«01_k».proof.Proof.Reference.Value

@[expose] public section

noncomputable section

namespace Cert.Equal

open Idealize.ShloMosaic
open Idealize.ShloMosaic.ValueIdx
open Cert.KernelIdeal (S8x256 S4x256 S4x4096x256 S16384x256)
open Cert.KernelIdeal.Tile (propRow filled flat result)
open Cert.ReferenceIdeal.Table (second out out_apply)

variable {F : FTy → Type} [FloatOps F]

/-- The kernel's choice of the second table's row is the reference's. -/
theorem propRow_eq (k : Fin 8) : propRow k.val = second k := by
  fin_cases k <;> rfl

/-- The kernel's result, entry by entry. -/
theorem result_apply (E₁ : S8x256.Idx → F .f32) (E₂ : S4x256.Idx → F .f32) (b : Fin 4) (s : Fin 4096) (e : Fin 256) :
    result E₁ E₂ (ix3 b s e)
      = FloatOps.addf (E₁ (ix2 (⟨s.val % 8, Nat.mod_lt _ (by decide)⟩ : Fin 8) e)) (E₂ (ix2 (propRow (s.val % 8)) e)) := by
  have hb := b.isLt
  have hs := s.isLt
  have hrow : (4096 * b.val + s.val) % 128 % 8 = s.val % 8 := by omega
  unfold result
  refine (shapeCast_apply _ _ _ (ix2 (⟨4096 * b.val + s.val, by omega⟩ : Fin 16384) e) ?_).trans ?_
  · rw [Shape.rowMajor_val_two, Shape.rowMajor_val_three]
    show (4096 * b.val + s.val) * 256 + e.val = (b.val * 4096 + s.val) * 256 + e.val
    rw [Nat.mul_comm 4096]
  · show FloatOps.addf (E₁ (ix2 (⟨(4096 * b.val + s.val) % 128 % 8, _⟩ : Fin 8) e)) (E₂ (ix2 (propRow ((4096 * b.val + s.val) % 128 % 8)) e)) = _
    simp only [hrow]

/-- The kernel's result is the reference's. -/
theorem result_eq (E₁ : S8x256.Idx → F .f32) (E₂ : S4x256.Idx → F .f32) : (result E₁ E₂ : S4x4096x256.Idx → F .f32) = out E₁ E₂ := by
  funext j
  obtain ⟨b, s, e, rfl⟩ : ∃ (b : Fin 4) (s : Fin 4096) (e : Fin 256), j = ix3 b s e := ⟨j 0, j 1, j 2, eq_ix3 j⟩
  rw [result_apply, propRow_eq ⟨s.val % 8, Nat.mod_lt _ (by decide)⟩]
  exact (out_apply E₁ E₂ b s e).symm

end Cert.Equal

end
-- ==== Proof.lean ====
/-
  The certificate: both programs of the kernel and the reference run to the end, keep their arguments and leave every semaphore
  at zero; and the idealized kernel's result is the reference's. The kernel's runs are Proof/Kernel/Launch.lean and
  Proof/KernelIdeal/Launch.lean; the reference's value is Proof/Reference/Value.lean; the two values are compared in
  Proof/Equal.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel as printed runs, keeps its three arguments and ends with every semaphore at zero. -/
theorem frame_kernel : Cert.quiescent_Kernel := fun m g _ =>
  (θ_run Cert.Kernel.defs _ _).mono (fun _ h => ⟨fun c => (h.1 c).2, h.2⟩) (Cert.Kernel.Tile.run (F := Bits) m g)

/-- So does the idealized kernel. -/
theorem frame_ideal : Cert.quiescent_KernelIdeal := fun m g _ =>
  (θ_run Cert.KernelIdeal.defs _ _).mono (fun _ h => ⟨fun c => (h.1 c).2, h.2⟩) (Cert.KernelIdeal.Tile.run (F := Ideal) m g)

/-- So does the reference, which has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From the same arguments the idealized kernel and the reference end with the same result: the sum, at every batch, position and
    column, of the two tables' entries. -/
theorem value : Cert.algebraic_KernelIdeal_ReferenceIdeal := by
  intro m g m' g' _ hagree
  refine ⟨fun c => Cert.KernelIdeal.Tile.resultVal m c, ?_, ?_⟩
  · exact (θ_run Cert.KernelIdeal.defs _ _).mono (fun _ h c => h.1 c) (Cert.KernelIdeal.Tile.run (F := Ideal) m g)
  · refine (θ_run Cert.ReferenceIdeal.defs _ _).mono (fun _ h c => ⟨(h c).1.trans ?_, (h c).2⟩)
      (Cert.ReferenceIdeal.Value.run (F := Ideal) m' g')
    refine (Cert.ReferenceIdeal.Table.res_eq m' c).trans ?_
    rw [(hagree c).2.1, (hagree c).2.2]
    exact (Cert.Equal.result_eq _ _).symm

/-- All claims, with the witnesses of the facts the programs state. -/
theorem claim : Cert.Claim :=
  ⟨Cert.Kernel.Gen.facts, Cert.KernelIdeal.Gen.facts, Cert.ReferenceIdeal.Gen.facts,
    frame_kernel, frame_ideal, frame_reference, trivial, value⟩

end Cert.Proof

end
